-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![16384, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8x1024x128 : Shape := ⟨3, ![8, 1024, 128]⟩
abbrev S8 : Shape := ⟨1, ![8]⟩
abbrev S_ : Shape := ⟨0, ![]⟩
abbrev S2048x64 : Shape := ⟨2, ![2048, 64]⟩
abbrev S1024x64 : Shape := ⟨2, ![1024, 64]⟩
abbrev S1024x128 : Shape := ⟨2, ![1024, 128]⟩
abbrev S1x1024x128 : Shape := ⟨3, ![1, 1024, 128]⟩
abbrev S1 : Shape := ⟨1, ![1]⟩
abbrev S8192x128 : Shape := ⟨2, ![8192, 128]⟩

abbrev nBuf : Space → Nat
  | .hbm => 2
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .local _ .vmem, ⟨0, _⟩ => ⟨S2048x512, .bf16⟩
  | .local _ .vmem, ⟨1, _⟩ => ⟨S2048x512, .bf16⟩
  | .local _ .vmem, ⟨2, _⟩ => ⟨S8x1024x128, .bf16⟩
  | .local _ .vmem, ⟨3, _⟩ => ⟨S8x1024x128, .bf16⟩
  | .local _ .vmem, ⟨4, _⟩ => ⟨S8x1024x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v96 : Index := Scalar.indexCast v2
  let c0_54 : Index := 0#32
  let c0_55 : Index := 0#32
  ![v96.toNat, 0, 0]
def k0_off2 (d0 : Dev nD) (c1_i32_58 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_58
  let c8_i32_59 : BitVec 32 := 8#32
  let v104 : BitVec 32 := Scalar.remsi v103 c8_i32_59
  ![v104.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_62 : BitVec 32 := 0#32
  let c0_i32_63 : BitVec 32 := 0#32
  ![v2.toNat, 0, 0]
def k0_off5 (d0 : Dev nD) (c1_i32_58 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v103 : BitVec 32 := Scalar.addi v2 c1_i32_58
  let c8_i32_59 : BitVec 32 := 8#32
  let v104 : BitVec 32 := Scalar.remsi v103 c8_i32_59
  let c0_i32_64 : BitVec 32 := 0#32
  let c0_i32_65 : BitVec 32 := 0#32
  ![v104.toNat, 0, 0]
def k0_dev8 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v103 : BitVec 32 := Scalar.addi v2 c1_i32_58
  let c8_i32_59 : BitVec 32 := 8#32
  let v104 : BitVec 32 := Scalar.remsi v103 c8_i32_59
  let c1_i32_60 : BitVec 32 := 1#32
  let v105 : BitVec 32 := Scalar.muli v104 c1_i32_60
  let v106 : BitVec 32 := Scalar.addi c0_i32_61 v105
  v106.toNat
def k0_dev9 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_66 : BitVec 32 := 2#32
  let v115 : BitVec 32 := Scalar.addi v2 c2_i32_66
  let c8_i32_67 : BitVec 32 := 8#32
  let v116 : BitVec 32 := Scalar.remsi v115 c8_i32_67
  let c1_i32_68 : BitVec 32 := 1#32
  let v117 : BitVec 32 := Scalar.muli v116 c1_i32_68
  let v118 : BitVec 32 := Scalar.addi c0_i32_69 v117
  v118.toNat
def k0_dev10 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_74 : BitVec 32 := 3#32
  let v127 : BitVec 32 := Scalar.addi v2 c3_i32_74
  let c8_i32_75 : BitVec 32 := 8#32
  let v128 : BitVec 32 := Scalar.remsi v127 c8_i32_75
  let c1_i32_76 : BitVec 32 := 1#32
  let v129 : BitVec 32 := Scalar.muli v128 c1_i32_76
  let v130 : BitVec 32 := Scalar.addi c0_i32_77 v129
  v130.toNat
def k0_dev11 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v139 : BitVec 32 := Scalar.addi v2 c4_i32_82
  let c8_i32_83 : BitVec 32 := 8#32
  let v140 : BitVec 32 := Scalar.remsi v139 c8_i32_83
  let c1_i32_84 : BitVec 32 := 1#32
  let v141 : BitVec 32 := Scalar.muli v140 c1_i32_84
  let v142 : BitVec 32 := Scalar.addi c0_i32_85 v141
  v142.toNat
def k0_dev12 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_90 : BitVec 32 := 5#32
  let v151 : BitVec 32 := Scalar.addi v2 c5_i32_90
  let c8_i32_91 : BitVec 32 := 8#32
  let v152 : BitVec 32 := Scalar.remsi v151 c8_i32_91
  let c1_i32_92 : BitVec 32 := 1#32
  let v153 : BitVec 32 := Scalar.muli v152 c1_i32_92
  let v154 : BitVec 32 := Scalar.addi c0_i32_93 v153
  v154.toNat
def k0_dev13 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_98 : BitVec 32 := 6#32
  let v163 : BitVec 32 := Scalar.addi v2 c6_i32_98
  let c8_i32_99 : BitVec 32 := 8#32
  let v164 : BitVec 32 := Scalar.remsi v163 c8_i32_99
  let c1_i32_100 : BitVec 32 := 1#32
  let v165 : BitVec 32 := Scalar.muli v164 c1_i32_100
  let v166 : BitVec 32 := Scalar.addi c0_i32_101 v165
  v166.toNat
def k0_dev14 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v175 : BitVec 32 := Scalar.addi v2 c7_i32_106
  let c8_i32_107 : BitVec 32 := 8#32
  let v176 : BitVec 32 := Scalar.remsi v175 c8_i32_107
  let c1_i32_108 : BitVec 32 := 1#32
  let v177 : BitVec 32 := Scalar.muli v176 c1_i32_108
  let v178 : BitVec 32 := Scalar.addi c0_i32_109 v177
  v178.toNat
@[reducible] def k0_t1_loop : Scf.Loop 32 :=
  let c0_i32_208 : BitVec 32 := 0#32
  let c14_i32 : BitVec 32 := 14#32
  let v312 : BitVec 32 := Scalar.addi c0_i32_208 c14_i32
  let c1_i32_209 : BitVec 32 := 1#32
  ⟨c0_i32_208, v312, c1_i32_209⟩
@[reducible] def k0_t2_loop (k0_t1 : Fin k0_t1_loop.trips) : Scf.Loop 32 :=
  let c0_i32_408 : BitVec 32 := 0#32
  let c0_i32_208 : BitVec 32 := 0#32
  let c1_i32_209 : BitVec 32 := 1#32
  let arg9 : BitVec 32 := Scf.iv c0_i32_208 c1_i32_209 k0_t1
  let c1_i32_407 : BitVec 32 := 1#32
  let v577 : BitVec 32 := Scalar.addi arg9 c1_i32_407
  let v578 : BitVec 32 := Scalar.subi v577 c0_i32_408
  let c1_i32_409 : BitVec 32 := 1#32
  let v580 : BitVec 32 := Scalar.divsi v578 c1_i32_409
  let v581 : BitVec 32 := Scalar.muli v580 c1_i32_409
  let v582 : BitVec 32 := Scalar.addi c0_i32_408 v581
  let c1_i32_410 : BitVec 32 := 1#32
  ⟨c0_i32_408, v582, c1_i32_410⟩
@[reducible] def k0_t3_loop (k0_t1 : Fin k0_t1_loop.trips) : Scf.Loop 32 :=
  let c0_i32_408 : BitVec 32 := 0#32
  let c0_i32_208 : BitVec 32 := 0#32
  let c1_i32_209 : BitVec 32 := 1#32
  let arg9 : BitVec 32 := Scf.iv c0_i32_208 c1_i32_209 k0_t1
  let c1_i32_407 : BitVec 32 := 1#32
  let v577 : BitVec 32 := Scalar.addi arg9 c1_i32_407
  let v578 : BitVec 32 := Scalar.subi v577 c0_i32_408
  let c1_i32_409 : BitVec 32 := 1#32
  let v580 : BitVec 32 := Scalar.divsi v578 c1_i32_409
  let v581 : BitVec 32 := Scalar.muli v580 c1_i32_409
  let v582 : BitVec 32 := Scalar.addi c0_i32_408 v581
  let v579 : BitVec 32 := Scalar.addi c0_i32_408 v578
  let c1_i32_411 : BitVec 32 := 1#32
  ⟨v582, v579, c1_i32_411⟩
def k0_dev15 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_218 : BitVec 32 := 1#32
  let v325 : BitVec 32 := Scalar.addi v2 c1_i32_218
  let c8_i32_219 : BitVec 32 := 8#32
  let v326 : BitVec 32 := Scalar.remsi v325 c8_i32_219
  let c1_i32_220 : BitVec 32 := 1#32
  let v327 : BitVec 32 := Scalar.muli v326 c1_i32_220
  let v328 : BitVec 32 := Scalar.addi c0_i32_221 v327
  v328.toNat
def k0_dev16 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_226 : BitVec 32 := 2#32
  let v337 : BitVec 32 := Scalar.addi v2 c2_i32_226
  let c8_i32_227 : BitVec 32 := 8#32
  let v338 : BitVec 32 := Scalar.remsi v337 c8_i32_227
  let c1_i32_228 : BitVec 32 := 1#32
  let v339 : BitVec 32 := Scalar.muli v338 c1_i32_228
  let v340 : BitVec 32 := Scalar.addi c0_i32_229 v339
  v340.toNat
def k0_dev17 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_234 : BitVec 32 := 3#32
  let v349 : BitVec 32 := Scalar.addi v2 c3_i32_234
  let c8_i32_235 : BitVec 32 := 8#32
  let v350 : BitVec 32 := Scalar.remsi v349 c8_i32_235
  let c1_i32_236 : BitVec 32 := 1#32
  let v351 : BitVec 32 := Scalar.muli v350 c1_i32_236
  let v352 : BitVec 32 := Scalar.addi c0_i32_237 v351
  v352.toNat
def k0_dev18 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_242 : BitVec 32 := 4#32
  let v361 : BitVec 32 := Scalar.addi v2 c4_i32_242
  let c8_i32_243 : BitVec 32 := 8#32
  let v362 : BitVec 32 := Scalar.remsi v361 c8_i32_243
  let c1_i32_244 : BitVec 32 := 1#32
  let v363 : BitVec 32 := Scalar.muli v362 c1_i32_244
  let v364 : BitVec 32 := Scalar.addi c0_i32_245 v363
  v364.toNat
def k0_dev19 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_250 : BitVec 32 := 5#32
  let v373 : BitVec 32 := Scalar.addi v2 c5_i32_250
  let c8_i32_251 : BitVec 32 := 8#32
  let v374 : BitVec 32 := Scalar.remsi v373 c8_i32_251
  let c1_i32_252 : BitVec 32 := 1#32
  let v375 : BitVec 32 := Scalar.muli v374 c1_i32_252
  let v376 : BitVec 32 := Scalar.addi c0_i32_253 v375
  v376.toNat
def k0_dev20 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_258 : BitVec 32 := 6#32
  let v385 : BitVec 32 := Scalar.addi v2 c6_i32_258
  let c8_i32_259 : BitVec 32 := 8#32
  let v386 : BitVec 32 := Scalar.remsi v385 c8_i32_259
  let c1_i32_260 : BitVec 32 := 1#32
  let v387 : BitVec 32 := Scalar.muli v386 c1_i32_260
  let v388 : BitVec 32 := Scalar.addi c0_i32_261 v387
  v388.toNat
def k0_dev21 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_266 : BitVec 32 := 7#32
  let v397 : BitVec 32 := Scalar.addi v2 c7_i32_266
  let c8_i32_267 : BitVec 32 := 8#32
  let v398 : BitVec 32 := Scalar.remsi v397 c8_i32_267
  let c1_i32_268 : BitVec 32 := 1#32
  let v399 : BitVec 32 := Scalar.muli v398 c1_i32_268
  let v400 : BitVec 32 := Scalar.addi c0_i32_269 v399
  v400.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.KernelIdeal.Slots.lean ====
/-
The buffers of the kernel, cut into the pieces the devices exchange.

Each of the three exchange buffers holds eight slots of 1024x128 elements, one per device. This module names a slot,
cuts a buffer's ownership into its slots and joins it again, and says what a buffer holds once every slot, or every
block of columns, was stored.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.ReshapeSlab

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part, and the exchange's with duties named by devices -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The other devices, in the order a device addresses them -/

set_option backward.proofsInPublic true in
/-- The device `r + 1` places after `c`. -/
def peer (c : Dev nD) (r : Fin 7) : Dev nD := ⟨(c.val + r.val + 1) % 8, Nat.mod_lt _ (by decide)⟩

/-- The step that leads back. -/
def back (r : Fin 7) : Fin 7 := ⟨6 - r.val, by omega⟩

theorem peer_back (c : Dev nD) (r : Fin 7) : peer (peer c r) (back r) = c := by revert c r; decide
theorem back_back (r : Fin 7) : back (back r) = r := by revert r; decide
theorem peer_ne (c : Dev nD) (r : Fin 7) : peer c r ≠ c := by revert c r; decide
theorem peer_inj (c : Dev nD) : Function.Injective (peer c) := by revert c; decide
theorem exists_peer (c d : Dev nD) (h : d ≠ c) : ∃ r, peer c r = d := by revert c d; decide

/-- The others are the devices a step away. -/
theorem univ_map_peer (c : Dev nD) : Finset.univ.map ⟨peer c, peer_inj c⟩ = Finset.univ.erase c := by
  ext d
  simp only [Finset.mem_map, Finset.mem_univ, true_and, Function.Embedding.coeFn_mk, Finset.mem_erase, and_true]
  exact ⟨fun ⟨r, h⟩ => h ▸ peer_ne c r, exists_peer c d⟩

/-! ## Slots and blocks of columns -/

abbrev xM : Memref sig .tc .vmem S2048x512 .bf16 := Memref.whole cc0_stg0_0
abbrev oM : Memref sig .tc .vmem S2048x512 .bf16 := Memref.whole cc0_stg1_0
abbrev sM : Memref sig .tc .vmem S8x1024x128 .bf16 := Memref.whole cc0_scratch0
abbrev gM : Memref sig .tc .vmem S8x1024x128 .bf16 := Memref.whole cc0_scratch1
abbrev rM : Memref sig .tc .vmem S8x1024x128 .bf16 := Memref.whole cc0_scratch2

theorem slotR_inb (s : Fin 8) : ∀ a, (![s.val, 0, 0] : Fin 3 → Nat) a + S1x1024x128.size a ≤ S8x1024x128.size a := by
  revert s; decide
/-- Slot `s` of an exchange buffer. -/
abbrev slotR (s : Fin 8) : Rect S8x1024x128 := Rect.unit (s := S8x1024x128) ![s.val, 0, 0] S1x1024x128.size (slotR_inb s)

theorem colR_inb (t : Fin 8) : ∀ a, (![0, 64 * t.val] : Fin 2 → Nat) a + S2048x64.size a ≤ S2048x512.size a := by
  revert t; decide
/-- Block `t` of sixty-four columns. -/
abbrev colR (t : Fin 8) : Rect S2048x512 := Rect.unit (s := S2048x512) ![0, 64 * t.val] S2048x64.size (colR_inb t)

/-- Slot `s` as the transfers name it: its leading axis dropped. -/
def slotM (M : Memref sig .tc .vmem S8x1024x128 .bf16) (s : Fin 8) : Memref sig .tc .vmem S1024x128 .bf16 :=
  (M.slice (slotR s) (fun _ => rfl)).squeeze S1024x128 squeezes_S1x1024x128_S1024x128

/-- The slot a device addresses for its `r`-th peer is the peer's. -/
theorem slot_off5 (M : Memref sig .tc .vmem S8x1024x128 .bf16) (c : Dev nD) (r : Fin 7) :
    (M.slice (Rect.unit (s := S8x1024x128) (k0_off5 c (BitVec.ofNat 32 (1 + r.val))) S1x1024x128.size (k0_off5_inb c r)) (fun _ => rfl)).squeeze
      S1024x128 squeezes_S1x1024x128_S1024x128 = slotM M (peer c r) := by
  unfold slotM
  rw [Memref.slice_unit_congr M (k0_off5_eq c r) (k0_off5_inb c r) (slotR_inb (peer c r)) (fun _ => rfl) (fun _ => rfl)]
  rfl

/-- A device's own slot. -/
theorem slot_off4 (M : Memref sig .tc .vmem S8x1024x128 .bf16) (c : Dev nD) :
    (M.slice (Rect.unit (s := S8x1024x128) (k0_off4 c) S1x1024x128.size (k0_off4_inb c)) (fun _ => rfl)).squeeze
      S1024x128 squeezes_S1x1024x128_S1024x128 = slotM M c := by
  unfold slotM
  rw [Memref.slice_unit_congr M (k0_off4_eq c) (k0_off4_inb c) (slotR_inb c) (fun _ => rfl) (fun _ => rfl)]

theorem rect_off1 (c : Dev nD) : Rect.unit (s := S8x1024x128) (k0_off1 c) S1x1024x128.size (k0_off1_inb c) = slotR c :=
  Rect.unit_congr (k0_off1_eq c) _ _

/-! ## A family of rectangles that cuts a buffer up -/

section Cut

variable {s : Shape} {e : EltTy} (M : Memref sig .tc .vmem s e) (R : Fin 8 → Rect s)

/-- Contents whose first `n` pieces are `w`. -/
def Upto (w : ∀ t : Fin 8, (R t).shape.Idx → Elt F e) (n : ℕ) (f : M.view.ty.Contents (Elt F)) : Prop :=
  ∀ t : Fin 8, t.val < n → (M.access (R t)).read (Elt F) f = w t

omit [FloatOps F] in
theorem upto_zero (w : ∀ t : Fin 8, (R t).shape.Idx → Elt F e) (f : M.view.ty.Contents (Elt F)) : Upto M R w 0 f :=
  fun t ht => absurd ht (Nat.not_lt_zero _)

omit [FloatOps F] in
/-- Storing one more piece, the pieces apart from each other. -/
theorem Upto.store {w : ∀ t : Fin 8, (R t).shape.Idx → Elt F e} {n : ℕ} {f : M.view.ty.Contents (Elt F)}
    (hd : ∀ t t', t ≠ t' → Disjoint (R t).set (R t').set) (h : Upto M R w n f) (t : Fin 8) (ht : t.val = n) :
    Upto M R w (n + 1) ((M.access (R t)).write (Elt F) f (w t) Finset.univ) := by
  intro t' ht'
  by_cases he : t' = t
  · subst he; exact View.read_write_univ _ _
  · have hlt : t'.val < n := by
      have : t'.val ≠ t.val := fun h' => he (Fin.ext h')
      omega
    rw [← h t' hlt]
    exact View.read_slice_write_slice_of_disjoint (v := M.view) (R t') (R t) f (w t) Finset.univ
      (View.disjoint_slice (hd t' t he))

omit [FloatOps F] in
/-- Two contents with the same pieces agree on every element of the buffer, the pieces covering it. -/
theorem agree_of_pieces {f g : M.view.ty.Contents (Elt F)} (hc : ∀ x : s.Idx, ∃ t, x ∈ (R t).set)
    (h : ∀ t, (M.access (R t)).read (Elt F) f = (M.access (R t)).read (Elt F) g) : ∀ i ∈ M.view.set, f i = g i := by
  intro i hi
  obtain ⟨x, -, rfl⟩ := Finset.mem_map.mp hi
  obtain ⟨t, ht⟩ := hc x
  rw [← Rect.map_emb_univ] at ht
  obtain ⟨y, -, rfl⟩ := Finset.mem_map.mp ht
  exact View.eq_of_read_eq (v := M.access (R t)) (congrFun (h t) y)

end Cut

theorem slotR_disj : ∀ t t' : Fin 8, t ≠ t' → Disjoint (slotR t).set (slotR t').set := by
  intro t t' h
  have h' : t.val ≠ t'.val := fun e => h (Fin.ext e)
  have := View.disjoint_slice_of_sep (View.whole cc0_scratch0 : View sig .tc _ _ _) (slotR t) (slotR t') (0 : Fin 3) rfl rfl
    (by show t.val + 1 ≤ t'.val ∨ t'.val + 1 ≤ t.val; omega)
  rwa [View.set_slice_whole, View.set_slice_whole] at this

theorem colR_disj : ∀ t t' : Fin 8, t ≠ t' → Disjoint (colR t).set (colR t').set := by
  intro t t' h
  have h' : t.val ≠ t'.val := fun e => h (Fin.ext e)
  have := View.disjoint_slice_of_sep (View.whole cc0_stg1_0 : View sig .tc _ _ _) (colR t) (colR t') (1 : Fin 2) rfl rfl
    (by show 64 * t.val + 64 ≤ 64 * t'.val ∨ 64 * t'.val + 64 ≤ 64 * t.val; omega)
  rwa [View.set_slice_whole, View.set_slice_whole] at this

/-- The index a slot's element has in the slot. -/
def inSlot (x : S8x1024x128.Idx) : S1x1024x128.Idx := fun a => match a with
  | ⟨0, _⟩ => (⟨0, Nat.one_pos⟩ : Fin 1)
  | ⟨1, _⟩ => x 1
  | ⟨2, _⟩ => x 2

theorem slotR_emb_inSlot (x : S8x1024x128.Idx) : (slotR (x 0)).emb (inSlot x) = x := by
  funext a
  apply Fin.ext
  rw [Rect.emb_apply]
  match a with
  | ⟨0, _⟩ => show (x 0).val + 1 * 0 = (x 0).val; omega
  | ⟨1, _⟩ => show 0 + 1 * (x 1).val = (x 1).val; omega
  | ⟨2, _⟩ => show 0 + 1 * (x 2).val = (x 2).val; omega

theorem slotR_emb_zero (s : Fin 8) (y : S1x1024x128.Idx) : (slotR s).emb y 0 = s := by
  apply Fin.ext
  rw [Rect.emb_apply]
  have : (y 0).val < 1 := (y 0).isLt
  show s.val + 1 * (y 0).val = s.val
  omega

theorem inSlot_slotR_emb (s : Fin 8) (y : S1x1024x128.Idx) : inSlot ((slotR s).emb y) = y := by
  have h : (slotR s).emb (inSlot ((slotR s).emb y)) = (slotR s).emb y := by
    have := slotR_emb_inSlot ((slotR s).emb y)
    rwa [slotR_emb_zero] at this
  exact (slotR s).emb.injective h

theorem slotR_cover : ∀ x : S8x1024x128.Idx, ∃ t, x ∈ (slotR t).set := fun x =>
  ⟨x 0, by rw [← Rect.map_emb_univ]; exact Finset.mem_map.mpr ⟨inSlot x, Finset.mem_univ _, slotR_emb_inSlot x⟩⟩

/-- The block of columns an element lies in, and its index there. -/
def colOf (x : S2048x512.Idx) : Fin 8 := ⟨(x 1).val / 64, by have : (x 1).val < 512 := (x 1).isLt; omega⟩
def inCol (x : S2048x512.Idx) : S2048x64.Idx := fun a => match a with
  | ⟨0, _⟩ => x 0
  | ⟨1, _⟩ => ⟨(x 1).val % 64, Nat.mod_lt _ (by decide)⟩

theorem colR_emb_inCol (x : S2048x512.Idx) : (colR (colOf x)).emb (inCol x) = x := by
  funext a
  apply Fin.ext
  rw [Rect.emb_apply]
  match a with
  | ⟨0, _⟩ => show 0 + 1 * (x 0).val = (x 0).val; omega
  | ⟨1, _⟩ => show 64 * ((x 1).val / 64) + 1 * ((x 1).val % 64) = (x 1).val; omega

theorem colOf_colR_emb (t : Fin 8) (y : S2048x64.Idx) : colOf ((colR t).emb y) = t := by
  apply Fin.ext
  have : (y 1).val < 64 := (y 1).isLt
  show ((colR t).emb y 1).val / 64 = t.val
  rw [Rect.emb_apply]
  show (64 * t.val + 1 * (y 1).val) / 64 = t.val
  omega

theorem inCol_colR_emb (t : Fin 8) (y : S2048x64.Idx) : inCol ((colR t).emb y) = y := by
  have h : (colR t).emb (inCol ((colR t).emb y)) = (colR t).emb y := by
    have := colR_emb_inCol ((colR t).emb y)
    rwa [colOf_colR_emb] at this
  exact (colR t).emb.injective h

theorem colR_cover : ∀ x : S2048x512.Idx, ∃ t, x ∈ (colR t).set := fun x =>
  ⟨colOf x, by rw [← Rect.map_emb_univ]; exact Finset.mem_map.mpr ⟨inCol x, Finset.mem_univ _, colR_emb_inCol x⟩⟩

/-! ## Contents given slot by slot, or block of columns by block of columns -/

def ofSlots (w : Fin 8 → Vec F S1x1024x128 .bf16) : Vec F S8x1024x128 .bf16 := fun x => w (x 0) (inSlot x)
def slotOf (f : Vec F S8x1024x128 .bf16) (s : Fin 8) : Vec F S1x1024x128 .bf16 := fun y => f ((slotR s).emb y)
def ofCols (w : Fin 8 → Vec F S2048x64 .bf16) : Vec F S2048x512 .bf16 := fun x => w (colOf x) (inCol x)
def colsOf (f : Vec F S2048x512 .bf16) (t : Fin 8) : Vec F S2048x64 .bf16 := fun y => f ((colR t).emb y)

omit [FloatOps F] in
theorem slotOf_ofSlots (w : Fin 8 → Vec F S1x1024x128 .bf16) (s : Fin 8) : slotOf (ofSlots w) s = w s := by
  funext y
  show w ((slotR s).emb y 0) (inSlot ((slotR s).emb y)) = w s y
  rw [slotR_emb_zero, inSlot_slotR_emb]

omit [FloatOps F] in
theorem colsOf_ofCols (w : Fin 8 → Vec F S2048x64 .bf16) (t : Fin 8) : colsOf (ofCols w) t = w t := by
  funext y
  show w (colOf ((colR t).emb y)) (inCol ((colR t).emb y)) = w t y
  rw [colOf_colR_emb, inCol_colR_emb]

/-! ## Ownership of a slot, and of a whole exchange buffer -/

/-- Device `c`'s slot `s` of a buffer, at the contents `f` (of which only the slot's elements count). -/
def slotPts (M : Memref sig .tc .vmem S8x1024x128 .bf16) (c : Dev nD) (s : Fin 8)
    (f : Buf (Elt F) (M.view.loc (c : Thread nD τ))) : sProp 𝕄 :=
  M.view.loc (c : Thread nD τ) ↦[(M.access (slotR s)).set]{fullShare} f

omit [FloatOps F] in
instance slotPts_storable (M : Memref sig .tc .vmem S8x1024x128 .bf16) (c : Dev nD) (s : Fin 8) (f) :
    BI.Storable (upEmb : UEmb _ 𝕄) (slotPts (F := F) M c s f) := by unfold slotPts; infer_instance

omit [FloatOps F] in
theorem slotM_set (M : Memref sig .tc .vmem S8x1024x128 .bf16) (s : Fin 8) : (slotM M s).view.set = (M.access (slotR s)).set :=
  View.set_reshape _ _

omit [FloatOps F] in
/-- A slot under the name the transfers give it; -/
theorem slotPts_slotM (M : Memref sig .tc .vmem S8x1024x128 .bf16) (c : Dev nD) (s : Fin 8) (f : Buf (Elt F) (M.view.loc (c : Thread nD τ))) :
    ((slotM M s).view.loc (c : Thread nD τ) ↦[(slotM M s).view.set]{fullShare} f : sProp 𝕄) = slotPts M c s f :=
  congrArg (fun S => (M.view.loc (c : Thread nD τ) ↦[S]{fullShare} f : sProp 𝕄)) (slotM_set M s)

omit [FloatOps F] in
/-- and under the name the loads and stores give it. -/
theorem slotPts_access (M : Memref sig .tc .vmem S8x1024x128 .bf16) (c : Dev nD) (s : Fin 8) (f : Buf (Elt F) (M.view.loc (c : Thread nD τ))) :
    ((M.access (slotR s)).loc (c : Thread nD τ) ↦[(M.access (slotR s)).set]{fullShare} f : sProp 𝕄) = slotPts M c s f := rfl

omit [FloatOps F] in
theorem slot_union (M : Memref sig .tc .vmem S8x1024x128 .bf16) :
    M.view.set = Finset.univ.biUnion fun s : Fin 8 => (M.access (slotR s)).set := by
  ext i
  constructor
  · intro hi
    obtain ⟨x, -, rfl⟩ := Finset.mem_map.mp hi
    obtain ⟨t, ht⟩ := slotR_cover x
    refine Finset.mem_biUnion.mpr ⟨t, Finset.mem_univ _, ?_⟩
    show M.view.emb x ∈ (M.view.slice (slotR t)).set
    rw [View.set_slice]; exact Finset.mem_map_of_mem _ ht
  · intro hi
    obtain ⟨t, -, hi⟩ := Finset.mem_biUnion.mp hi
    exact View.set_slice_subset _ _ hi

omit [FloatOps F] in
/-- A buffer held whole is its slots, each held. -/
theorem whole_slots (M : Memref sig .tc .vmem S8x1024x128 .bf16) (c : Dev nD) (f : Buf (Elt F) (M.view.loc (c : Thread nD τ))) :
    (M.view.loc (c : Thread nD τ) ↦[M.view.set]{fullShare} f : sProp 𝕄) = bigSep Finset.univ fun s : Fin 8 => slotPts M c s f := by
  rw [slot_union, pointsTo_biUnion Finset.univ _ (fun t _ t' _ h => View.disjoint_slice (slotR_disj t t' h))]
  exact bigSep_congr fun s _ => rfl

omit [FloatOps F] in
/-- The slots, each at some contents, are the buffer at some contents. -/
theorem slots_whole (M : Memref sig .tc .vmem S8x1024x128 .bf16) (c : Dev nD) (f₀ : Buf (Elt F) (M.view.loc (c : Thread nD τ))) :
    (bigSep Finset.univ fun s : Fin 8 => iprop(∃ f, slotPts (F := F) M c s f))
      ⊢ (iprop(∃ f, M.view.loc (c : Thread nD τ) ↦[M.view.set]{fullShare} f) : sProp 𝕄) := by
  have : Nonempty (Buf (Elt F) (M.view.loc (c : Thread nD τ))) := ⟨f₀⟩
  refine (BI.bigSep_exists_pi Finset.univ (fun s (f : Buf (Elt F) (M.view.loc (c : Thread nD τ))) => slotPts M c s f)).trans ?_
  iintro ⟨%fs, H⟩
  unfold slotPts
  ihave H := (pointsTo_biUnion_join Finset.univ (fun s : Fin 8 => (M.access (slotR s)).set) fs f₀
    (fun t _ t' _ h => View.disjoint_slice (slotR_disj t t' h))) $$ H
  icases H with ⟨%g, -, H⟩
  iexists g
  rw [slot_union]
  iexact H

omit [FloatOps F] in
/-- Only what a slot reads counts. -/
theorem slotPts_congr (M : Memref sig .tc .vmem S8x1024x128 .bf16) (c : Dev nD) (s : Fin 8)
    {f g : Buf (Elt F) (M.view.loc (c : Thread nD τ))} (h : (M.access (slotR s)).read (Elt F) f = (M.access (slotR s)).read (Elt F) g) :
    slotPts (F := F) M c s f = slotPts M c s g := by
  refine pointsTo_congr fun i hi => ?_
  obtain ⟨x, -, rfl⟩ := Finset.mem_map.mp hi
  exact View.eq_of_read_eq (v := M.access (slotR s)) (congrFun h x)

omit [FloatOps F] in
/-- A slot copied over another: what lands is what the source slot reads. -/
theorem slotPts_landed (M M' : Memref sig .tc .vmem S8x1024x128 .bf16) (c : Dev nD) (s s' : Fin 8)
    (fd g : M.view.ty.Contents (Elt F)) (fs : M'.view.ty.Contents (Elt F))
    (h : (M.access (slotR s)).read (Elt F) g = (M'.access (slotR s')).read (Elt F) fs) :
    ((slotM M s).view.loc (c : Thread nD τ) ↦[(slotM M s).view.set]{fullShare}
        ((slotM M s).view.write (Elt F) fd ((slotM M' s').view.read (Elt F) fs) Finset.univ) : sProp 𝕄) = slotPts M c s g := by
  rw [← slotPts_slotM]
  refine pointsTo_congr fun i hi => ?_
  obtain ⟨x, -, rfl⟩ := Finset.mem_map.mp hi
  refine View.eq_of_read_eq (v := (slotM M s).view) ?_
  refine (congrFun (View.read_write_univ (v := (slotM M s).view) fd _) x).trans ?_
  exact (congrFun h (Shape.reshapeEquiv squeezes_S1x1024x128_S1024x128.numel_eq x)).symm

/-- The credit of a slot's transfer. -/
abbrev N : ℕ := (slotM sM 0).view.dmaCredit
theorem N_pos : 0 < N := View.dmaCredit_pos _ (by decide)

end Cert.KernelIdeal.Pf
-- ==== Proof.KernelIdeal.Contents.lean ====
/-
What the buffers of a device hold, stage by stage: its eight folded blocks of columns, what the first exchange brings
together, that sorted, what the second exchange brings together, and the result. The sorting loops are stated as a
function of the array they start from.
-/
module

public import proofs.«01_k».proof.Proof.KernelIdeal.Slots
public import Idealize.ShloMosaic.Lib.Pipeline.Value

@[expose] public section

noncomputable section

namespace Cert.KernelIdeal.Pf

open Cert.KernelIdeal Cert.KernelIdeal.Gen

open Idealize.ShloMosaic
open Idealize.ShloMosaic.TcCoe
open Idealize.SL Idealize.SL.Sem

variable {F : FTy → Type} [FloatOps F]

/-! ## The sorting loops as a function -/

/-- A counted loop whose trips only compute is the fold of what its trips compute. -/
theorem forFrom_ret {E : Type → Type} {σ : Type} {n : ℕ} (body : Fin n → σ → Prog E σ) (f : Fin n → σ → σ)
    (h : ∀ k a, body k a = .ret (f k a)) : ∀ (l : List (Fin n)) (a : σ), Scf.forFrom body l a = .ret (l.foldl (fun a k => f k a) a) := by
  intro l
  induction l with
  | nil => intro a; rfl
  | cons k l ih =>
    intro a
    rw [Scf.forFrom_cons, h]
    exact ih _

/-- A choice between two values, and a computation on the one chosen. -/
theorem dite_bind_ret {E : Type → Type} {α β : Type} {c : Prop} [Decidable c] (x y : α) (g : α → β) :
    (if _h : c then (pure x : Prog E α) >>= fun v => (pure (g v) : Prog E β) else (pure y : Prog E α) >>= fun v => pure (g v))
      = .ret (g (if c then x else y)) := by
  split <;> rfl

/-- The distance of the partners compared in one pass, as the kernel computes it. -/
def distW (k1 : Fin k0_t1_loop.trips) (k2 : Fin (k0_t2_loop k1).trips) : BitVec 32 :=
  Scalar.shrsi (Scalar.shli 2#32 (Scf.iv 0#32 1#32 k1)) (Scalar.addi (Scf.iv 0#32 1#32 k2) 1#32)

/-- One pass: every element against its partner, keeping the larger or the smaller. -/
def passVec (k1 : Fin k0_t1_loop.trips) (k2 : Fin (k0_t2_loop k1).trips) (a : FVec F S8192x128 .bf16) : FVec F S8192x128 .bf16 :=
  k0_pay18 k1 k2 a
    (if Scalar.cmpi .ne (Scalar.extui (Scalar.cmpi .eq (distW k1 k2) 1024#32) : BitVec 32) 0#32 = 1#1 then k0_pay16 a else k0_pay17 k1 k2 a)

/-- One stage: the elements of the descending runs negated, the passes, and negated back. -/
def stageVec (k1 : Fin k0_t1_loop.trips) (a : FVec F S8192x128 .bf16) : FVec F S8192x128 .bf16 :=
  k0_pay23 k1 ((List.finRange (k0_t2_loop k1).trips).foldl (fun a k => passVec k1 k a) (k0_pay14 k1 a))

/-- All fourteen stages. -/
def sortVec (a : FVec F S8192x128 .bf16) : FVec F S8192x128 .bf16 :=
  (List.finRange k0_t1_loop.trips).foldl (fun a k => stageVec k a) a

section Loops
variable (arg0 : Memref sig .tc .vmem S2048x512 .bf16) (harg0 : arg0.IsWhole) (arg1 : Memref sig .tc .vmem S2048x512 .bf16) (harg1 : arg1.IsWhole)
  (arg2 : Memref sig .tc .vmem S8x1024x128 .bf16) (harg2 : arg2.IsWhole) (arg3 : Memref sig .tc .vmem S8x1024x128 .bf16) (harg3 : arg3.IsWhole)
  (arg4 : Memref sig .tc .vmem S8x1024x128 .bf16) (harg4 : arg4.IsWhole) (arg5 arg6 arg7 arg8 : DmaSems sig S8) (d0 : Dev nD)

theorem t2_body_ret (k1 : Fin k0_t1_loop.trips) (k2 : Fin (k0_t2_loop k1).trips) (a : FVec F S8192x128 .bf16) :
    k0_t2_body arg0 harg0 arg1 harg1 arg2 harg2 arg3 harg3 arg4 harg4 arg5 arg6 arg7 arg8 d0 k1 (Scalar.shli 2#32 (Scf.iv 0#32 1#32 k1)) k2 a
      = .ret (passVec k1 k2 a) := by
  unfold k0_t2_body passVec distW
  exact dite_bind_ret _ _ (k0_pay18 k1 k2 a)

theorem t3_trips (k1 : Fin k0_t1_loop.trips) : (k0_t3_loop k1).trips = 0 := Nat.le_zero.mp (k0_t3_abs k1).2.1

/-- A counted loop whose trips only compute. -/
theorem loop_ret {E : Type → Type} {σ : Type} {w : ℕ} (l : Scf.Loop w) (hok : l.OK) (body : Fin l.trips → σ → Prog E σ) (f : Fin l.trips → σ → σ)
    (h : ∀ k a, body k a = .ret (f k a)) (a : σ) : Scf.Loop.for l hok a body = .ret ((List.finRange l.trips).foldl (fun a k => f k a) a) := by
  unfold Scf.Loop.for
  rw [Scf.for_eq]
  exact forFrom_ret body f h _ a

theorem t1_body_ret (k1 : Fin k0_t1_loop.trips) (a : FVec F S8192x128 .bf16) :
    k0_t1_body arg0 harg0 arg1 harg1 arg2 harg2 arg3 harg3 arg4 harg4 arg5 arg6 arg7 arg8 d0 k1 a = .ret (stageVec k1 a) := by
  unfold k0_t1_body
  dsimp only
  rw [loop_ret (k0_t2_loop k1) (k0_t2_ok k1) _ _ (t2_body_ret arg0 harg0 arg1 harg1 arg2 harg2 arg3 harg3 arg4 harg4 arg5 arg6 arg7 arg8 d0 k1)]
  show (Scf.Loop.for (k0_t3_loop k1) (k0_t3_ok k1) _ _ >>= _) = _
  rw [loop_ret (k0_t3_loop k1) (k0_t3_ok k1) _ (fun k a => a) (fun k => absurd (lt_of_lt_of_eq k.isLt (t3_trips k1)) (Nat.not_lt_zero _))]
  rw [List.finRange_eq_nil_iff.mpr (t3_trips k1)]
  rfl

/-- The printed sorting loops compute `sortVec`. -/
theorem sort_loop (a : FVec F S8192x128 .bf16) :
    Scf.Loop.for k0_t1_loop k0_t1_ok a (k0_t1_body arg0 harg0 arg1 harg1 arg2 harg2 arg3 harg3 arg4 harg4 arg5 arg6 arg7 arg8 d0)
      = .ret (sortVec a) := by
  exact loop_ret k0_t1_loop k0_t1_ok _ _ (t1_body_ret arg0 harg0 arg1 harg1 arg2 harg2 arg3 harg3 arg4 harg4 arg5 arg6 arg7 arg8 d0) a

end Loops

/-! ## The contents -/

variable (m : (ℓ : Loc nD τ sig) → Buf (Elt F) ℓ) (ρ : Dev nD → PrngReg)

/-- The memory at launch: any contents, every semaphore counter at zero, any generator registers. -/
def s₀ : MemSt nD τ sig (Elt F) := ⟨m, fun _ => 0, ρ⟩

/-- Device `c`'s argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Block `s` of device `c`'s columns, its lower half beside its upper half. -/
def foldB (c : Dev nD) (s : Fin 8) : Vec F S1x1024x128 .bf16 := k0_pay1 (colsOf (F := F) (xstg m ρ c) s)

/-- Device `c`'s folded blocks, by destination; -/
def sendC (c : Dev nD) : Vec F S8x1024x128 .bf16 := ofSlots fun s => foldB m ρ c s
/-- what the first exchange brings it, by source; -/
def gathC (c : Dev nD) : Vec F S8x1024x128 .bf16 := ofSlots fun s => foldB m ρ s c
/-- that, sorted; -/
def sortC (c : Dev nD) : Vec F S8x1024x128 .bf16 := k0_pay24 (sortVec (k0_pay11 (gathC m ρ c)))
/-- what the second exchange brings it, by source; -/
def routC (c : Dev nD) : Vec F S8x1024x128 .bf16 := ofSlots fun s => slotOf (sortC m ρ s) c
/-- and its result, block of columns by block of columns. -/
def outC (c : Dev nD) : Vec F S2048x512 .bf16 := ofCols fun s => k0_pay30 (slotOf (routC m ρ c) s)

theorem slotOf_sendC (c : Dev nD) (s : Fin 8) : slotOf (sendC m ρ c) s = foldB m ρ c s := slotOf_ofSlots _ _
theorem slotOf_gathC (c : Dev nD) (s : Fin 8) : slotOf (gathC m ρ c) s = foldB m ρ s c := slotOf_ofSlots _ _
theorem slotOf_routC (c : Dev nD) (s : Fin 8) : slotOf (routC m ρ c) s = slotOf (sortC m ρ s) c := slotOf_ofSlots _ _
theorem colsOf_outC (c : Dev nD) (s : Fin 8) : colsOf (outC m ρ c) s = k0_pay30 (slotOf (routC m ρ c) s) := colsOf_ofCols _ _

/-- The printed copies of the fold and of its inverse are one function each. -/
theorem pay10_eq (v : Vec F S1x1024x128 .bf16) : k0_pay10 v = v := by
  unfold k0_pay10
  exact shapeCast_shapeCast v _ _
theorem pay25_eq (v : Vec F S1x1024x128 .bf16) : k0_pay25 v = v := pay10_eq v

end Cert.KernelIdeal.Pf
-- ==== Proof.KernelIdeal.Passes.lean ====
/-
One pass of the sort, over the extended reals. The 8192x128 array holds 64 columns of 16384 elements: the position of
row `r`, lane `l` is what the kernel computes from its two counts, and `l % 64` is the column. A pass compares every
element with the one whose position differs in one bit, and so is one stage of a sorting network on every column.
-/
module

public import proofs.«01_k».proof.Proof.KernelIdeal.Contents
public import Idealize.ShloMosaic.Lib.SortNet.Sorts
public import Idealize.ShloMosaic.Lib.SortNet.Printed
public import Idealize.ShloMosaic.Lib.KernelVsHost
public import Idealize.ShloMosaic.Lib.WordCmp
public import Mathlib.Tactic.IntervalCases

@[expose] public section

noncomputable section

namespace Cert.KernelIdeal.Pf

open Cert.KernelIdeal Cert.KernelIdeal.Gen
open Idealize.ShloMosaic Idealize.ShloMosaic.SortNet

/-! ## Positions -/

set_option backward.proofsInPublic true in
/-- Where the element at position `i` of column `q` lies: its row and its lane. -/
def place (i : Fin (2 ^ 14)) (q : Fin 64) : S8192x128.Idx := fun a => match a with
  | ⟨0, _⟩ => (⟨1024 * (i.val / 2048) + i.val % 1024, by omega⟩ : Fin 8192)
  | ⟨1, _⟩ => (⟨64 * (i.val / 1024 % 2) + q.val, by omega⟩ : Fin 128)

theorem place_row (i : Fin (2 ^ 14)) (q : Fin 64) : (place i q 0).val = 1024 * (i.val / 2048) + i.val % 1024 := rfl
theorem place_lane (i : Fin (2 ^ 14)) (q : Fin 64) : (place i q 1).val = 64 * (i.val / 1024 % 2) + q.val := rfl

/-- A row number shifted right by ten places. -/
theorem shift_row (r : ℕ) (hr : r < 8192) : IntOp.shrsi .vector (BitVec.ofNat 32 r) 10#32 = BitVec.ofNat 32 (r / 1024) := by
  unfold IntOp.shrsi
  rw [if_pos (by decide)]
  show (BitVec.ofNat 32 r).sshiftRight 10 = _
  rw [BitVec.sshiftRight_eq_of_msb_false
    (by rw [BitVec.msb_eq_decide, BitVec.toNat_ofNat, Nat.mod_eq_of_lt (by omega)]; exact decide_eq_false (by omega))]
  apply BitVec.eq_of_toNat_eq
  rw [BitVec.toNat_ushiftRight, BitVec.toNat_ofNat, BitVec.toNat_ofNat, Nat.mod_eq_of_lt (by omega), Nat.mod_eq_of_lt (by omega), Nat.shiftRight_eq_div_pow]

/-- The kernel's count at an element is the element's position. -/
theorem pay12_place (i : Fin (2 ^ 14)) (q : Fin 64) : k0_pay12 (place i q) = BitVec.ofNat 32 i.val := by
  unfold k0_pay12
  show IntOp.addi (iota .tc S8192x128 32 [0] iota_S8192x128_d0_w32 (place i q))
    (IntOp.muli 1024#32 (IntOp.addi (IntOp.shrsi .vector (iota .tc S8192x128 32 [0] iota_S8192x128_d0_w32 (place i q)) 10#32)
      ((IntOp.cmpi .sge (iota .tc S8192x128 32 [1] iota_S8192x128_d1_w32 (place i q)) 64#32).setWidth 32))) = _
  rw [iota_single_apply, iota_single_apply, place_row, place_lane, shift_row _ (by omega)]
  rw [show (64#32 : BitVec 32) = BitVec.ofNat 32 64 from rfl, WordCmp.cmpi_sge_ofNat (by omega) (by decide)]
  by_cases h : i.val / 1024 % 2 = 0
  · rw [decide_eq_false (by omega), show (BitVec.ofBool false).setWidth 32 = BitVec.ofNat 32 0 from rfl]
    apply BitVec.eq_of_toNat_eq
    simp only [IntOp.addi, IntOp.muli, BitVec.toNat_add, BitVec.toNat_mul, BitVec.toNat_ofNat]
    omega
  · rw [decide_eq_true (by omega), show (BitVec.ofBool true).setWidth 32 = BitVec.ofNat 32 1 from rfl]
    apply BitVec.eq_of_toNat_eq
    simp only [IntOp.addi, IntOp.muli, BitVec.toNat_add, BitVec.toNat_mul, BitVec.toNat_ofNat]
    omega

/-- The test of bit `s` of the position, as printed. -/
theorem bit_place (d : BitVec 32) {s : ℕ} (hd : d.toNat = 2 ^ s) (i : Fin (2 ^ 14)) (q : Fin 64) :
    cmpi .ne (andi k0_pay12 (broadcast S8192x128 d)) (broadcast S8192x128 0#32) (place i q) = BitVec.ofBool (decide (i.val &&& 2 ^ s ≠ 0)) := by
  show BitVec.ofBool (IntOp.andi (k0_pay12 (place i q)) d != 0#32) = _
  rw [pay12_place]
  congr 1
  rw [Bool.eq_iff_iff, bne_iff_ne, decide_eq_true_eq, Ne, and_distance_eq_zero_iff (by omega) d hd]

/-! ## The loops' numbers -/

theorem t1_trips : k0_t1_loop.trips = 14 := by decide
theorem t1_lt (k1 : Fin k0_t1_loop.trips) : k1.val < 14 := lt_of_lt_of_eq k1.isLt t1_trips
theorem t2_trips : ∀ k1 : Fin k0_t1_loop.trips, (k0_t2_loop k1).trips = k1.val + 1 := by decide +kernel
theorem t2_le (k1 : Fin k0_t1_loop.trips) (k2 : Fin (k0_t2_loop k1).trips) : k2.val ≤ k1.val := by
  have := lt_of_lt_of_eq k2.isLt (t2_trips k1)
  omega

/-- The bit the partners of a pass differ in. -/
def bitOf (k1 : Fin k0_t1_loop.trips) (k2 : Fin (k0_t2_loop k1).trips) : ℕ := k1.val - k2.val
theorem bitOf_lt (k1 : Fin k0_t1_loop.trips) (k2 : Fin (k0_t2_loop k1).trips) : bitOf k1 k2 < 14 := by
  have := t1_lt k1
  unfold bitOf
  omega

theorem distW_eq : ∀ (k1 : Fin k0_t1_loop.trips) (k2 : Fin (k0_t2_loop k1).trips), distW k1 k2 = BitVec.ofNat 32 (2 ^ bitOf k1 k2) := by
  decide +kernel
theorem size_toNat : ∀ k1 : Fin k0_t1_loop.trips, (Scalar.shli 2#32 (Scf.iv 0#32 1#32 k1) : BitVec 32).toNat = 2 ^ (k1.val + 1) := by
  decide +kernel

theorem pow_toNat {s : ℕ} (hs : s < 14) : (BitVec.ofNat 32 (2 ^ s)).toNat = 2 ^ s := by
  rw [BitVec.toNat_ofNat]
  exact Nat.mod_eq_of_lt (lt_of_lt_of_le (Nat.pow_lt_pow_right (by decide) hs) (by decide))

/-- The descending runs of a stage: bit `k1 + 1` of the position is set. -/
theorem pay13_place (k1 : Fin k0_t1_loop.trips) (i : Fin (2 ^ 14)) (q : Fin 64) :
    k0_pay13 k1 (place i q) = BitVec.ofBool (decide (i.val &&& 2 ^ (k1.val + 1) ≠ 0)) := bit_place _ (size_toNat k1) i q

/-- The upper partners of a pass: the pass's bit of the position is set. -/
theorem pay15_place (k1 : Fin k0_t1_loop.trips) (k2 : Fin (k0_t2_loop k1).trips) (i : Fin (2 ^ 14)) (q : Fin 64) :
    k0_pay15 k1 k2 (place i q) = BitVec.ofBool (decide (i.val &&& 2 ^ bitOf k1 k2 ≠ 0)) :=
  bit_place (distW k1 k2) (by rw [distW_eq]; exact pow_toNat (bitOf_lt k1 k2)) i q

/-! ## The partner's place -/

/-- How many rows apart partners lie whose positions differ in bit `s`, for `s ≠ 10`. -/
def rowsApart (s : ℕ) : ℕ := if 11 ≤ s then 2 ^ (s - 1) else 2 ^ s

theorem clear_iff (n s : ℕ) : n &&& 2 ^ s = 0 ↔ n / 2 ^ s % 2 = 0 := by
  rw [and_two_pow_eq_zero_iff_testBit, Nat.testBit_eq_decide_div_mod_eq, decide_eq_false_iff_not]
  omega

theorem partner_bit10 (i : Fin (2 ^ 14)) :
    (partner 14 10 i).val = if i.val / 1024 % 2 = 0 then i.val + 1024 else i.val - 1024 := by
  have hc : i.val &&& 2 ^ 10 = 0 ↔ i.val / 1024 % 2 = 0 := clear_iff i.val 10
  by_cases h : i.val &&& 2 ^ 10 = 0
  · rw [partner_val_of_clear (by decide) i h, if_pos (hc.mp h)]; rfl
  · rw [(partner_val_of_set (by decide) i h).2, if_neg (fun e => h (hc.mpr e))]; rfl

/-- Partners at bit ten share the row and lie sixty-four lanes apart. -/
theorem place_partner10 (i : Fin (2 ^ 14)) (q : Fin 64) :
    (place (partner 14 10 i) q 0).val = (place i q 0).val ∧ (place (partner 14 10 i) q 1).val = ((place i q 1).val + 64) % 128 := by
  have h := partner_bit10 i
  have hi := i.isLt
  have hq := q.isLt
  rw [place_row, place_row, place_lane, place_lane, h]
  split <;> omega

/-- Adding `2 ^ s` to a number whose bit `s` is clear, in rows and lanes. -/
theorem step_up {n s : ℕ} (hs : s < 14) (h10 : s ≠ 10) (hn : n < 16384) (h : n / 2 ^ s % 2 = 0) :
    (n + 2 ^ s) / 1024 % 2 = n / 1024 % 2
      ∧ 1024 * ((n + 2 ^ s) / 2048) + (n + 2 ^ s) % 1024 = 1024 * (n / 2048) + n % 1024 + rowsApart s := by
  unfold rowsApart
  interval_cases s
  all_goals first
    | exact absurd rfl h10
    | (simp only [Nat.reducePow, Nat.reduceLeDiff, Nat.reduceSub, ↓reduceIte] at h ⊢
       constructor <;> omega)

/-- The upper partner at another bit shares the lane and lies `rowsApart s` rows further. -/
theorem place_upper {s : ℕ} (hs : s < 14) (h10 : s ≠ 10) (i : Fin (2 ^ 14)) (q : Fin 64) (h : i.val &&& 2 ^ s = 0) :
    (place (partner 14 s i) q 1).val = (place i q 1).val ∧ (place (partner 14 s i) q 0).val = (place i q 0).val + rowsApart s := by
  rw [place_row, place_row, place_lane, place_lane, partner_val_of_clear hs i h]
  obtain ⟨h1, h0⟩ := step_up hs h10 i.isLt ((clear_iff _ _).mp h)
  exact ⟨by rw [h1], h0⟩

/-- Partners at another bit share the lane and lie `rowsApart s` rows apart. -/
theorem place_partner {s : ℕ} (hs : s < 14) (h10 : s ≠ 10) (i : Fin (2 ^ 14)) (q : Fin 64) :
    (place (partner 14 s i) q 1).val = (place i q 1).val
      ∧ (i.val &&& 2 ^ s = 0 → (place (partner 14 s i) q 0).val = (place i q 0).val + rowsApart s)
      ∧ (i.val &&& 2 ^ s ≠ 0 → (place (partner 14 s i) q 0).val + rowsApart s = (place i q 0).val) := by
  by_cases h : i.val &&& 2 ^ s = 0
  · obtain ⟨h1, h0⟩ := place_upper hs h10 i q h
    exact ⟨h1, fun _ => h0, fun e => absurd h e⟩
  · obtain ⟨h1, h0⟩ := place_upper hs h10 (partner 14 s i) q (partner_and_of_set hs i h)
    rw [partner_partner hs] at h1 h0
    exact ⟨h1.symm, fun e => absurd e h, fun _ => h0.symm⟩

theorem rowsApart_lt {s : ℕ} (hs : s < 14) : 0 < rowsApart s ∧ rowsApart s < 8192 := by
  unfold rowsApart
  interval_cases s <;> decide

/-! ## One pass -/

/-- Column `q` of an array. -/
def column (a : FVec Ideal S8192x128 .bf16) (q : Fin 64) : Fin (2 ^ 14) → EReal := fun i => a (place i q)

/-- The rows rotated, at an element; -/
theorem rotate_rows (n : BitVec 32) (a : FVec Ideal S8192x128 .bf16) (j k : S8192x128.Idx)
    (h0 : (k 0).val = ((j 0).val + 8192 - n.toNat % 8192) % 8192) (h1 : (k 1).val = (j 1).val) :
    dynamicRotate 0 n none a rotates_S8192x128_d0 j = a k :=
  dynamicRotate_apply (0 : Fin 2) n a _ j k (Fin.forall_fin_two.mpr
    ⟨by rw [if_pos rfl]; exact h0, by rw [if_neg (by decide)]; exact h1⟩)

/-- and the lanes. -/
theorem rotate_lanes (n : BitVec 32) (a : FVec Ideal S8192x128 .bf16) (j k : S8192x128.Idx)
    (h0 : (k 0).val = (j 0).val) (h1 : (k 1).val = ((j 1).val + 128 - n.toNat % 128) % 128) :
    dynamicRotate 1 n none a rotates_S8192x128_d1 j = a k :=
  dynamicRotate_apply (1 : Fin 2) n a _ j k (Fin.forall_fin_two.mpr
    ⟨by rw [if_neg (by decide)]; exact h0, by rw [if_pos rfl]; exact h1⟩)

/-- The lanes rotated bring the partner at bit ten. -/
theorem pay16_place (a : FVec Ideal S8192x128 .bf16) (i : Fin (2 ^ 14)) (q : Fin 64) :
    k0_pay16 a (place i q) = a (place (partner 14 10 i) q) := by
  unfold k0_pay16
  obtain ⟨h0, h1⟩ := place_partner10 i q
  exact rotate_lanes _ a _ _ h0 h1

/-- The rows rotated one way or the other bring the partner at another bit. -/
theorem pay17_place (k1 : Fin k0_t1_loop.trips) (k2 : Fin (k0_t2_loop k1).trips) (h10 : bitOf k1 k2 ≠ 10) (a : FVec Ideal S8192x128 .bf16)
    (i : Fin (2 ^ 14)) (q : Fin 64) : k0_pay17 k1 k2 a (place i q) = a (place (partner 14 (bitOf k1 k2) i) q) := by
  have hr : Scalar.select (Scalar.cmpi .sge (distW k1 k2) 2048#32) (Scalar.shrsi (distW k1 k2) 1#32) (distW k1 k2)
      = BitVec.ofNat 32 (rowsApart (bitOf k1 k2)) := by
    rw [distW_eq]
    have := bitOf_lt k1 k2
    generalize bitOf k1 k2 = s at *
    interval_cases s <;> decide
  unfold k0_pay17
  show Scalar.select (k0_pay15 k1 k2 (place i q))
    (dynamicRotate (0 : Fin 2) (Scalar.select (Scalar.cmpi .sge (distW k1 k2) 2048#32) (Scalar.shrsi (distW k1 k2) 1#32) (distW k1 k2)) none a
      rotates_S8192x128_d0 (place i q))
    (dynamicRotate (0 : Fin 2) (Scalar.subi 8192#32
      (Scalar.select (Scalar.cmpi .sge (distW k1 k2) 2048#32) (Scalar.shrsi (distW k1 k2) 1#32) (distW k1 k2))) none a
      rotates_S8192x128_d0 (place i q)) = _
  rw [hr, pay15_place, select_ofBool]
  obtain ⟨hl, hcl, hst⟩ := place_partner (bitOf_lt k1 k2) h10 i q
  obtain ⟨hpos, hlt⟩ := rowsApart_lt (bitOf_lt k1 k2)
  have hrow : (place i q 0).val < 8192 := (place i q 0).isLt
  have hrow' : (place (partner 14 (bitOf k1 k2) i) q 0).val < 8192 := (place (partner 14 (bitOf k1 k2) i) q 0).isLt
  by_cases h : i.val &&& 2 ^ bitOf k1 k2 = 0
  · rw [if_neg (by rw [decide_eq_true_eq]; exact fun e => e h)]
    refine rotate_rows _ a _ _ ?_ hl
    have := hcl h
    rw [show (Scalar.subi 8192#32 (BitVec.ofNat 32 (rowsApart (bitOf k1 k2)))).toNat = 8192 - rowsApart (bitOf k1 k2) by
      unfold Scalar.subi IntOp.subi; rw [BitVec.toNat_sub, BitVec.toNat_ofNat, BitVec.toNat_ofNat]; omega]
    omega
  · rw [if_pos (by rw [decide_eq_true_eq]; exact h)]
    refine rotate_rows _ a _ _ ?_ hl
    have := hst h
    rw [BitVec.toNat_ofNat]
    omega

/-- A pass keeps, at an upper partner, the larger of the two, and at a lower one the smaller. -/
theorem passVec_place (k1 : Fin k0_t1_loop.trips) (k2 : Fin (k0_t2_loop k1).trips) (a : FVec Ideal S8192x128 .bf16) (i : Fin (2 ^ 14)) (q : Fin 64) :
    passVec k1 k2 a (place i q) = if i.val &&& 2 ^ bitOf k1 k2 = 0 then min (column a q i) (column a q (partner 14 (bitOf k1 k2) i))
      else max (column a q i) (column a q (partner 14 (bitOf k1 k2) i)) := by
  have hw : (if Scalar.cmpi .ne (Scalar.extui (Scalar.cmpi .eq (distW k1 k2) 1024#32) : BitVec 32) 0#32 = 1#1 then k0_pay16 a else k0_pay17 k1 k2 a)
      (place i q) = column a q (partner 14 (bitOf k1 k2) i) := by
    by_cases h10 : bitOf k1 k2 = 10
    · rw [if_pos (by rw [distW_eq, h10]; decide), pay16_place, h10]; rfl
    · rw [if_neg ?_, pay17_place k1 k2 h10]
      · rfl
      · rw [distW_eq]
        have := bitOf_lt k1 k2
        generalize bitOf k1 k2 = s at *
        interval_cases s <;> first | (exfalso; omega) | decide
  unfold passVec k0_pay18
  show Scalar.select (k0_pay15 k1 k2 (place i q)) (max (a (place i q)) _) (min (a (place i q)) _) = _
  rw [hw, pay15_place, select_ofBool]
  by_cases h : i.val &&& 2 ^ bitOf k1 k2 = 0
  · rw [if_pos h, if_neg (by rw [decide_eq_true_eq]; exact fun e => e h)]; rfl
  · rw [if_neg h, if_pos (by rw [decide_eq_true_eq]; exact h)]; rfl

end Cert.KernelIdeal.Pf
-- ==== Proof.KernelIdeal.Stages.lean ====
/-
The sorting loops, over the extended reals: on every column they are the bitonic sorting network. A stage negates the
runs that are to descend, makes ascending passes, and negates those runs back; since negation turns the smaller of two
into the larger, that is a stage of the network whose direction changes from run to run.
-/
module

public import proofs.«01_k».proof.Proof.KernelIdeal.Passes
public import Idealize.ShloMosaic.Lib.IdealHost

@[expose] public section

noncomputable section

namespace Cert.KernelIdeal.Pf

open Cert.KernelIdeal Cert.KernelIdeal.Gen
open Idealize.ShloMosaic Idealize.ShloMosaic.SortNet

/-- The direction of stage `l` at a position: whether its run descends. -/
def descends (l : ℕ) (i : Fin (2 ^ 14)) : Bool := decide (i.val &&& 2 ^ (l + 1) = 0) == false

/-- A vector with the elements of the descending runs negated. -/
def flip (l : ℕ) (v : Fin (2 ^ 14) → EReal) : Fin (2 ^ 14) → EReal := fun i => if descends l i then - v i else v i

theorem flip_flip (l : ℕ) (v : Fin (2 ^ 14) → EReal) : flip l (flip l v) = v := by
  funext i
  unfold flip
  by_cases h : descends l i = true
  · rw [if_pos h, if_pos h, neg_neg]
  · rw [if_neg h, if_neg h]

theorem neg_antitone : Antitone fun x : EReal => -x := fun _ _ h => EReal.neg_le_neg_iff.mpr h
theorem neg_min (x y : EReal) : min (-x) (-y) = -max x y := neg_antitone.map_max.symm
theorem neg_max (x y : EReal) : max (-x) (-y) = -min x y := neg_antitone.map_min.symm

/-- A network's stage at a position. -/
theorem stage_at {s l : ℕ} (hs : s < 14) (hsl : s ≤ l) (v : Fin (2 ^ 14) → EReal) (i : Fin (2 ^ 14)) :
    Network.apply (stage 14 s (descends l)) v i = if i.val &&& 2 ^ s = 0
      then (if descends l i then max (v i) (v (partner 14 s i)) else min (v i) (v (partner 14 s i)))
      else (if descends l i then min (v i) (v (partner 14 s i)) else max (v i) (v (partner 14 s i))) := by
  by_cases h : i.val &&& 2 ^ s = 0
  · rw [if_pos h]
    exact (apply_stage hs (descends l) v i h).1
  · rw [if_neg h]
    have hp := (apply_stage hs (descends l) v (partner 14 s i) (partner_and_of_set hs i h)).2
    rw [partner_partner hs, show descends l (partner 14 s i) = descends l i from sizeClear_partner hs hsl false i] at hp
    rw [hp, min_comm, max_comm]

theorem scalar_zero : (Scalar.ofBits .bf16 0x0000#16 : Ideal .bf16) = (0 : EReal) := Ideal.ofBits_zero_bf16

theorem flipped (k1 : Fin k0_t1_loop.trips) (a : FVec Ideal S8192x128 .bf16) (q : Fin 64) :
    column (select (k0_pay13 k1) (subf (broadcast S8192x128 (Scalar.ofBits .bf16 0x0000#16)) a) a) q = flip k1.val (column a q) := by
  funext i
  show Scalar.select (k0_pay13 k1 (place i q)) ((Scalar.ofBits .bf16 0x0000#16 : Ideal .bf16) - a (place i q) : EReal) (a (place i q)) = _
  rw [pay13_place, select_ofBool, scalar_zero]
  unfold flip descends column
  by_cases h : i.val &&& 2 ^ (k1.val + 1) = 0
  · rw [decide_eq_true h, decide_eq_false (fun e => e h)]; rfl
  · rw [decide_eq_false h, decide_eq_true h]
    exact zero_sub _

/-- One pass on a column whose descending runs are negated is one stage of the network. -/
theorem pass_stage (k1 : Fin k0_t1_loop.trips) (k2 : Fin (k0_t2_loop k1).trips) (a : FVec Ideal S8192x128 .bf16) (q : Fin 64)
    (v : Fin (2 ^ 14) → EReal) (h : column a q = flip k1.val v) :
    column (passVec k1 k2 a) q = flip k1.val (Network.apply (stage 14 (bitOf k1 k2) (descends k1.val)) v) := by
  funext i
  have hb := bitOf_lt k1 k2
  have hle : bitOf k1 k2 ≤ k1.val := Nat.sub_le _ _
  refine (passVec_place k1 k2 a i q).trans ?_
  rw [h]
  unfold flip
  rw [show descends k1.val (partner 14 (bitOf k1 k2) i) = descends k1.val i from sizeClear_partner hb hle false i, stage_at hb hle]
  by_cases hd : descends k1.val i = true
  · simp only [if_pos hd, neg_min, neg_max]
    split <;> rfl
  · simp only [if_neg hd]

/-- The passes of a stage, in their order. -/
theorem passes_net (k1 : Fin k0_t1_loop.trips) (q : Fin 64) : ∀ (L : List (Fin (k0_t2_loop k1).trips)) (a : FVec Ideal S8192x128 .bf16)
    (v : Fin (2 ^ 14) → EReal), column a q = flip k1.val v →
    column (L.foldl (fun a k => passVec k1 k a) a) q
      = flip k1.val (Network.apply (L.flatMap fun k2 => stage 14 (bitOf k1 k2) (descends k1.val)) v) := by
  intro L
  induction L with
  | nil => intro a v h; exact h
  | cons k2 L ih =>
    intro a v h
    rw [List.foldl_cons, List.flatMap_cons, Network.apply_append]
    exact ih _ _ (pass_stage k1 k2 a q v h)

theorem finRange_val {n m : ℕ} (h : n = m) : (List.finRange n).map Fin.val = List.range m := by
  subst h
  exact List.ext_getElem (by simp) fun i _ _ => by simp

theorem finRange_back {n l : ℕ} (h : n = l + 1) : (List.finRange n).map (fun k => l - k.val) = (List.range (l + 1)).reverse := by
  subst h
  exact List.ext_getElem (by simp) fun i _ _ => by simp

/-- One stage of the kernel is one level of the network. -/
theorem stage_level (k1 : Fin k0_t1_loop.trips) (a : FVec Ideal S8192x128 .bf16) (q : Fin 64) :
    column (stageVec k1 a) q = Network.apply (levelNet 14 false k1.val) (column a q) := by
  refine (flipped k1 _ q).trans ?_
  rw [passes_net k1 q _ (k0_pay14 k1 a) (column a q) (flipped k1 a q), flip_flip]
  congr 1
  unfold levelNet
  rw [← finRange_back (t2_trips k1), List.flatMap_map]
  rfl

/-- The whole sort is the network, on every column. -/
theorem sortVec_net (a : FVec Ideal S8192x128 .bf16) (q : Fin 64) :
    column (sortVec a) q = Network.apply (sortNet 14 false) (column a q) := by
  have h : ∀ (L : List (Fin k0_t1_loop.trips)) (a : FVec Ideal S8192x128 .bf16), column (L.foldl (fun a k => stageVec k a) a) q
      = Network.apply (L.flatMap fun k => levelNet 14 false k.val) (column a q) := by
    intro L
    induction L with
    | nil => intro a; rfl
    | cons k L ih =>
      intro a
      rw [List.foldl_cons, List.flatMap_cons, Network.apply_append, ih, stage_level]
  refine (h _ a).trans ?_
  rw [sortNet_eq_levelsNet]
  unfold levelsNet
  rw [← finRange_val t1_trips, List.flatMap_map]

/-- A sorted column ascends, and is the column rearranged. -/
theorem sortVec_column (a : FVec Ideal S8192x128 .bf16) (q : Fin 64) :
    Monotone (column (sortVec a) q) ∧ ∃ σ : Equiv.Perm (Fin (2 ^ 14)), column (sortVec a) q = column a q ∘ σ := by
  rw [sortVec_net]
  exact ⟨sortNet_apply_monotone 14 _, Network.exists_perm _ _⟩

end Cert.KernelIdeal.Pf
-- ==== Proof.KernelIdeal.Folding.lean ====
/-
Where the elements go before and after the sort: folding a block of sixty-four columns into a slot lays its lower half
to the right of its upper half, the exchange lays the eight devices' slots one under the other, and unfolding undoes the
fold. Read by columns: device `c` sorts columns `64 c` to `64 c + 63` of the whole, and hands device `d` the rows
`2048 d` to `2048 d + 2047` of what it has sorted.
-/
module

public import proofs.«01_k».proof.Proof.KernelIdeal.Passes
public import Idealize.ShloMosaic.Lib.Pointwise.Index

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]

/-- A folded block: lane `l` of row `r` is column `l mod 64`, of the upper half when `l < 64` and of the lower half otherwise. -/
theorem fold_apply (v : Vec F S2048x64 .bf16) (r : Fin 1024) (l : Fin 128) :
    k0_pay1 v (ix3 (0 : Fin 1) r l)
      = v (ix2 (n0 := 2048) (n1 := 64) ⟨r.val + 1024 * (l.val / 64), by omega⟩ ⟨l.val % 64, by omega⟩) := by
  unfold k0_pay1
  refine (shapeCast_apply _ _ (ix3 (0 : Fin 1) r l) (ix2 r l) ?_).trans ?_
  · rw [Shape.rowMajor_val_two, Shape.rowMajor_val_three]
    show r.val * 128 + l.val = (0 * 1024 + r.val) * 128 + l.val
    omega
  rw [shapeCast_self]
  by_cases h : l.val < 64
  · refine (concatenate_pair_apply_left (t := S1024x128) (s₁ := S1024x64) (s₂ := S1024x64) 1 _ _
      concatenates_S1024x64_S1024x64_S1024x128_d1 (ix2 r l) rfl (ix2 (n0 := 1024) (n1 := 64) r ⟨l.val, h⟩)
      (Fin.forall_fin_two.mpr ⟨rfl, rfl⟩)).trans ?_
    refine extractStridedSlice_apply _ _ _ _ _ (Fin.forall_fin_two.mpr ⟨?_, ?_⟩)
    · show r.val + 1024 * (l.val / 64) = 0 + r.val
      omega
    · show l.val % 64 = 0 + l.val
      omega
  · refine (concatenate_pair_apply_right (t := S1024x128) (s₁ := S1024x64) (s₂ := S1024x64) 1 _ _
      concatenates_S1024x64_S1024x64_S1024x128_d1 (ix2 r l) rfl rfl (ix2 (n0 := 1024) (n1 := 64) r ⟨l.val - 64, by omega⟩)
      (Fin.forall_fin_two.mpr ⟨fun _ => rfl, fun h => absurd rfl h⟩) ?_).trans ?_
    · show l.val - 64 + 64 = l.val
      omega
    refine extractStridedSlice_apply _ _ _ _ _ (Fin.forall_fin_two.mpr ⟨?_, ?_⟩)
    · show r.val + 1024 * (l.val / 64) = 1024 + r.val
      omega
    · show l.val % 64 = 0 + (l.val - 64)
      omega

/-- An unfolded slot: row `r` is row `r mod 1024` of the slot, in the left lanes when `r < 1024` and in the right ones otherwise. -/
theorem unfold_apply (v : Vec F S1x1024x128 .bf16) (r : Fin 2048) (q : Fin 64) :
    k0_pay30 v (ix2 r q)
      = v (ix3 (n0 := 1) (n1 := 1024) (n2 := 128) 0 ⟨r.val % 1024, by omega⟩ ⟨64 * (r.val / 1024) + q.val, by omega⟩) := by
  unfold k0_pay30
  have drop (a : Fin 1024) (b : Fin 128) : shapeCast S1024x128 v shapeCasts_S1x1024x128_S1024x128 (ix2 a b) = v (ix3 (0 : Fin 1) a b) := by
    refine shapeCast_apply _ _ _ _ ?_
    rw [Shape.rowMajor_val_two, Shape.rowMajor_val_three]
    show (0 * 1024 + a.val) * 128 + b.val = a.val * 128 + b.val
    omega
  rw [← drop]
  by_cases h : r.val < 1024
  · refine (concatenate_pair_apply_left (t := S2048x64) (s₁ := S1024x64) (s₂ := S1024x64) 0 _ _
      concatenates_S1024x64_S1024x64_S2048x64_d0 (ix2 r q) rfl (ix2 (n0 := 1024) (n1 := 64) ⟨r.val, h⟩ q)
      (Fin.forall_fin_two.mpr ⟨rfl, rfl⟩)).trans ?_
    refine extractStridedSlice_apply _ _ _ _ _ (Fin.forall_fin_two.mpr ⟨?_, ?_⟩)
    · show r.val % 1024 = 0 + r.val
      omega
    · show 64 * (r.val / 1024) + q.val = 0 + q.val
      omega
  · refine (concatenate_pair_apply_right (t := S2048x64) (s₁ := S1024x64) (s₂ := S1024x64) 0 _ _
      concatenates_S1024x64_S1024x64_S2048x64_d0 (ix2 r q) rfl rfl (ix2 (n0 := 1024) (n1 := 64) ⟨r.val - 1024, by omega⟩ q)
      (Fin.forall_fin_two.mpr ⟨fun h => absurd rfl h, fun _ => rfl⟩) ?_).trans ?_
    · show r.val - 1024 + 1024 = r.val
      omega
    refine extractStridedSlice_apply _ _ _ _ _ (Fin.forall_fin_two.mpr ⟨?_, ?_⟩)
    · show r.val % 1024 = 0 + (r.val - 1024)
      omega
    · show 64 * (r.val / 1024) + q.val = 64 + q.val
      omega

/-- The slots one under the other: row `1024 s + r` is row `r` of slot `s`. -/
theorem stack_apply (v : Vec F S8x1024x128 .bf16) (R : Fin 8192) (l : Fin 128) :
    k0_pay11 v (ix2 R l) = v (ix3 (n0 := 8) (n1 := 1024) (n2 := 128) ⟨R.val / 1024, by omega⟩ ⟨R.val % 1024, by omega⟩ l) := by
  unfold k0_pay11
  refine shapeCast_apply _ _ _ _ ?_
  rw [Shape.rowMajor_val_two, Shape.rowMajor_val_three]
  show (R.val / 1024 * 1024 + R.val % 1024) * 128 + l.val = R.val * 128 + l.val
  omega

/-- The rows cut into slots again: row `r` of slot `s` is row `1024 s + r`. -/
theorem unstack_apply (v : FVec F S8192x128 .bf16) (s : Fin 8) (r : Fin 1024) (l : Fin 128) :
    k0_pay24 v (ix3 s r l) = v (ix2 (n0 := 8192) (n1 := 128) ⟨1024 * s.val + r.val, by omega⟩ l) := by
  unfold k0_pay24
  rw [shapeCast_self]
  refine shapeCast_apply _ _ _ _ ?_
  rw [Shape.rowMajor_val_two, Shape.rowMajor_val_three]
  show (1024 * s.val + r.val) * 128 + l.val = (s.val * 1024 + r.val) * 128 + l.val
  omega

/-- Column `q` of what device `c` gathers is column `64 c + q` of the devices' inputs, one under the other. -/
theorem gathered_apply (m : (ℓ : Loc nD τ sig) → Buf (Elt F) ℓ) (ρ : Dev nD → PrngReg) (c : Dev nD) (q : Fin 64) (i : Fin (2 ^ 14)) :
    k0_pay11 (gathC m ρ c) (place i q)
      = xstg m ρ (⟨i.val / 2048, by omega⟩ : Fin 8) (ix2 (n0 := 2048) (n1 := 512) ⟨i.val % 2048, by omega⟩ ⟨64 * c.val + q.val, by have : c.val < 8 := c.isLt; omega⟩) := by
  have hq := q.isLt
  have hi := i.isLt
  refine (congrArg (k0_pay11 (gathC m ρ c)) (eq_ix2 (n0 := 8192) (n1 := 128) (place i q))).trans ((stack_apply _ _ _).trans ?_)
  have hs : (⟨(place i q 0).val / 1024, by rw [place_row]; omega⟩ : Fin 8) = ⟨i.val / 2048, by omega⟩ :=
    Fin.ext (by show (1024 * (i.val / 2048) + i.val % 1024) / 1024 = i.val / 2048; omega)
  show foldB m ρ (⟨(place i q 0).val / 1024, by rw [place_row]; omega⟩ : Fin 8) c _ = _
  rw [hs]
  refine (fold_apply _ ⟨(place i q 0).val % 1024, by omega⟩ (place i q 1)).trans ?_
  refine congrArg (xstg m ρ (⟨i.val / 2048, by omega⟩ : Fin 8)) (funext (Fin.forall_fin_two.mpr ⟨Fin.ext ?_, Fin.ext ?_⟩))
  · show 0 + 1 * ((place i q 0).val % 1024 + 1024 * ((place i q 1).val / 64)) = i.val % 2048
    rw [place_row, place_lane]
    omega
  · show 64 * c.val + 1 * ((place i q 1).val % 64) = 64 * c.val + q.val
    rw [place_lane]
    omega

/-- What device `c` ends with: its column `n` is rows `2048 c` to `2048 c + 2047` of the column that device `n / 64` sorted. -/
theorem result_apply (m : (ℓ : Loc nD τ sig) → Buf (Elt F) ℓ) (ρ : Dev nD → PrngReg) (c : Dev nD) (r : Fin 2048) (n : Fin 512) :
    outC m ρ c (ix2 r n)
      = sortVec (k0_pay11 (gathC m ρ (⟨n.val / 64, by omega⟩ : Fin 8)))
          (place ⟨2048 * c.val + r.val, by have : c.val < 8 := c.isLt; omega⟩ ⟨n.val % 64, by omega⟩) := by
  have hc : c.val < 8 := c.isLt
  have hin : inCol (ix2 r n) = ix2 r (⟨n.val % 64, by omega⟩ : Fin 64) := funext (Fin.forall_fin_two.mpr ⟨rfl, rfl⟩)
  show k0_pay30 (slotOf (routC m ρ c) (⟨n.val / 64, by omega⟩ : Fin 8)) (inCol (ix2 r n)) = _
  rw [hin, unfold_apply, slotOf_routC]
  have hs : (slotR c).emb (ix3 (n0 := 1) (n1 := 1024) (n2 := 128) 0 ⟨r.val % 1024, by omega⟩ ⟨64 * (r.val / 1024) + n.val % 64, by omega⟩)
      = ix3 (n0 := 8) (n1 := 1024) (n2 := 128) c ⟨r.val % 1024, by omega⟩ ⟨64 * (r.val / 1024) + n.val % 64, by omega⟩ := by
    funext a
    match a with
    | ⟨0, _⟩ => exact Fin.ext (by show c.val + 1 * 0 = c.val; omega)
    | ⟨1, _⟩ => exact Fin.ext (by show 0 + 1 * (r.val % 1024) = r.val % 1024; omega)
    | ⟨2, _⟩ => exact Fin.ext (by show 0 + 1 * (64 * (r.val / 1024) + n.val % 64) = 64 * (r.val / 1024) + n.val % 64; omega)
  show sortC m ρ (⟨n.val / 64, by omega⟩ : Fin 8) ((slotR c).emb _) = _
  refine (congrArg (sortC m ρ (⟨n.val / 64, by omega⟩ : Fin 8)) hs).trans ((unstack_apply _ c _ _).trans ?_)
  refine congrArg (sortVec (k0_pay11 (gathC m ρ (⟨n.val / 64, by omega⟩ : Fin 8)))) ?_
  refine funext (Fin.forall_fin_two.mpr ⟨Fin.ext ?_, Fin.ext ?_⟩)
  · rw [place_row]
    show 1024 * c.val + r.val % 1024 = 1024 * ((2048 * c.val + r.val) / 2048) + (2048 * c.val + r.val) % 1024
    omega
  · rw [place_lane]
    show 64 * (r.val / 1024) + n.val % 64 = 64 * ((2048 * c.val + r.val) / 1024 % 2) + n.val % 64
    omega

end Cert.KernelIdeal.Pf

end
-- ==== Proof.KernelIdeal.Protocol.lean ====
/-
What the devices owe and hand one another: the semaphore cells, who pays which of them how much and with what contents,
what a device still owes at each step, and the order of waiting that rules out a deadlock.
-/
module

public import proofs.«01_k».proof.Proof.KernelIdeal.Contents

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

abbrev barS : Sem sig := (SemArray.scalar (sig.barrier 0 rfl) : Sems sig S_).sem

/-- The transfer semaphores: of family `j` (0 and 1 the first exchange's send and receive, 2 and 3 the second's), the
    `i`-th. -/
def dq (j : Fin 4) (i : Fin 8) : DmaSem sig := ⟨2 + 8 * j.val + i.val, by show _ < 34; omega⟩

/-- The family and the index of a transfer semaphore. -/
def qj (q : DmaSem sig) : Fin 4 := ⟨(q.val - 2) / 8, by have : q.val < 34 := q.isLt; omega⟩
def qi (q : DmaSem sig) : Fin 8 := ⟨(q.val - 2) % 8, Nat.mod_lt _ (by omega)⟩

theorem qj_dq (j : Fin 4) (i : Fin 8) : qj (dq j i) = j := Fin.ext (by show (2 + 8 * j.val + i.val - 2) / 8 = j.val; omega)
theorem qi_dq (j : Fin 4) (i : Fin 8) : qi (dq j i) = i := Fin.ext (by show (2 + 8 * j.val + i.val - 2) % 8 = i.val; omega)

abbrev barCell (c : Dev nD) : GSem nD τ sig := ((c : Thread nD τ), .reg barS)
abbrev cell (c : Dev nD) (j : Fin 4) (i : Fin 8) : GSem nD τ sig := ((c : Thread nD τ), .dma (dq j i))

/-- The four families as the kernel is given them. -/
abbrev semA (j : Fin 4) : DmaSems sig S8 := match j with
  | 0 => cc0_scratch3
  | 1 => cc0_scratch4
  | 2 => cc0_scratch5
  | 3 => cc0_scratch6

theorem sem_inb (i : Fin 8) : ∀ a, (![i.val] : Fin 1 → Nat) a + S1.size a ≤ S8.size a := by revert i; decide

theorem sem_at (j : Fin 4) (i : Fin 8) :
    (((semA j).slice (Rect.unit (s := S8) ![i.val] S1.size (sem_inb i))).squeeze S_ squeezes_S1_S_).sem = dq j i := by
  revert j i; decide

/-- The semaphore a device addresses for its `r`-th peer, -/
theorem sem_off2 (j : Fin 4) (c : Dev nD) (r : Fin 7) :
    (((semA j).slice (Rect.unit (s := S8) (k0_off2 c (BitVec.ofNat 32 (1 + r.val))) S1.size (k0_off2_inb c r))).squeeze S_ squeezes_S1_S_).sem
      = dq j (peer c r) := by
  rw [SemArray.slice_unit_congr (semA j) (k0_off2_eq c r) (k0_off2_inb c r) (sem_inb (peer c r))]
  exact sem_at j (peer c r)

/-- and the one it addresses for itself. -/
theorem sem_off3 (j : Fin 4) (c : Dev nD) :
    (((semA j).slice (Rect.unit (s := S8) (k0_off3 c) S1.size (k0_off3_inb c))).squeeze S_ squeezes_S1_S_).sem = dq j c := by
  rw [SemArray.slice_unit_congr (semA j) (k0_off3_eq c) (k0_off3_inb c) (sem_inb c)]
  exact sem_at j c

/-! ## Who pays what -/

/-- What device `d`'s signal hands device `c`: its slot for `c` in each landing buffer. -/
def barPay (c d : Dev nD) : sProp 𝕄 := iprop((∃ f, slotPts (F := F) gM d c f) ∗ (∃ f, slotPts (F := F) rM d c f))

/-- What a transfer hands device `c`: its source slot back, or the slot it filled. -/
def pay (c : Dev nD) (j : Fin 4) (i : Fin 8) : sProp 𝕄 := match j with
  | 0 => slotPts sM c i (sendC m ρ c)
  | 1 => slotPts gM c i (gathC m ρ c)
  | 2 => slotPts gM c i (sortC m ρ c)
  | 3 => slotPts rM c i (routC m ρ c)

/-- One round. A barrier cell is paid a unit by every other device; a transfer cell, unless it is the one of its own
    device, a slot's credit by the one transfer. -/
def sched : Rounds.Schedule (GSem nD τ sig) (Fin 8) 𝕄 where
  duties g r := if r = 0 ∧ g.1.2 = .tc then (match g.2 with
      | .reg s => if s = barS then Finset.univ.erase g.1.1 else ∅
      | .dma q => if 2 ≤ q.val ∧ qi q ≠ g.1.1 then {qi q} else ∅) else ∅
  unitless _ := False
  amount g _ _ := match g.2 with
    | .reg _ => 1
    | .dma _ => N
  payload g _ d := match g.2 with
    | .reg _ => barPay g.1.1 d
    | .dma q => pay m ρ g.1.1 (qj q) (qi q)
  amount_pos g _ _ _ := by
    rcases g with ⟨_, _ | _⟩
    · exact Nat.one_pos
    · exact N_pos

instance pay_storable (c : Dev nD) (j : Fin 4) (i : Fin 8) : BI.Storable (upEmb : UEmb _ 𝕄) (pay m ρ c j i) := by
  unfold pay; split <;> infer_instance

instance barPay_storable (c d : Dev nD) : BI.Storable (upEmb : UEmb _ 𝕄) (barPay (F := F) c d) := by
  unfold barPay; infer_instance

instance sched_storable (g : GSem nD τ sig) (r : ℕ) (d : Fin 8) :
    BI.Storable (upEmb : UEmb _ 𝕄) ((sched m ρ).payload g r d) := by
  rcases g with ⟨_, _ | q⟩
  · exact barPay_storable _ _
  · exact pay_storable m ρ _ _ _

section Tables
variable (c : Dev nD)

theorem duties_bar : (sched m ρ).duties (barCell c) 0 = Finset.univ.erase c := by
  dsimp only [sched]; rw [if_pos ⟨rfl, rfl⟩]; exact if_pos rfl

theorem two_le_dq (j : Fin 4) (i : Fin 8) : 2 ≤ (dq j i).val := by show 2 ≤ 2 + 8 * j.val + i.val; omega

theorem duties_cell (j : Fin 4) (i : Fin 8) (h : i ≠ c) : (sched m ρ).duties (cell c j i) 0 = {i} := by
  dsimp only [sched]
  rw [if_pos ⟨rfl, rfl⟩, qi_dq]
  exact if_pos ⟨two_le_dq j i, h⟩

theorem duties_own (j : Fin 4) : ∀ r, (sched m ρ).duties (cell c j c) r = ∅ := by
  intro r
  dsimp only [sched]
  split
  · rw [qi_dq]; exact if_neg fun h => h.2 rfl
  · rfl

theorem duties_later (g : GSem nD τ sig) : ∀ r, 1 ≤ r → (sched m ρ).duties g r = ∅ :=
  fun r hr => by dsimp only [sched]; exact if_neg fun h => by omega

theorem amount_bar (d : Fin 8) : (sched m ρ).amount (barCell c) 0 d = 1 := rfl
theorem amount_cell (j : Fin 4) (i d : Fin 8) : (sched m ρ).amount (cell c j i) 0 d = N := rfl
theorem payload_bar (d : Fin 8) : (sched m ρ).payload (barCell c) 0 d = barPay c d := rfl
theorem payload_cell (j : Fin 4) (i d : Fin 8) : (sched m ρ).payload (cell c j i) 0 d = pay m ρ c j i := by
  show pay m ρ c (qj (dq j i)) (qi (dq j i)) = _
  rw [qj_dq, qi_dq]

theorem expect_bar : (sched m ρ).expect (barCell c) 0 = 7 := by
  unfold Schedule.expect Schedule.amountOf
  rw [duties_bar, Finset.sum_congr rfl fun d _ => amount_bar m ρ c d, Finset.sum_const, Finset.card_erase_of_mem (Finset.mem_univ _)]
  rfl

theorem expect_cell (j : Fin 4) (i : Fin 8) (h : i ≠ c) : (sched m ρ).expect (cell c j i) 0 = N := by
  unfold Schedule.expect Schedule.amountOf
  rw [duties_cell m ρ c j i h, Finset.sum_singleton, amount_cell]

/-- What the barrier hands a device: of every peer, its slot in each landing buffer. -/
theorem rest_bar : bigSep ((sched m ρ).duties (barCell c) 0 \ ∅) (fun d => (sched m ρ).payload (barCell c) 0 d)
    = bigSep Finset.univ fun r : Fin 7 => barPay (F := F) c (peer c r) := by
  rw [Finset.sdiff_empty, duties_bar, ← univ_map_peer, bigSep_map]
  rfl

theorem rest_cell (j : Fin 4) (i : Fin 8) (h : i ≠ c) :
    bigSep ((sched m ρ).duties (cell c j i) 0 \ ∅) (fun d => (sched m ρ).payload (cell c j i) 0 d) = pay m ρ c j i := by
  rw [Finset.sdiff_empty, duties_cell m ρ c j i h, bigSep_singleton, payload_cell]

end Tables

/-! ## What a device owes; the levels -/

/-- The device `n + 1` places after `c`. -/
def peerN (c : Dev nD) (n : ℕ) : Dev nD := ⟨(c.val + n + 1) % 8, Nat.mod_lt _ (by decide)⟩

/-- The cell that the step with `k` steps after it pays, and how much: first every peer's barrier, then every peer's first
    landing, then every peer's second. -/
def tgt (c : Dev nD) (k : ℕ) : GSem nD τ sig :=
  if 14 ≤ k then barCell (peerN c (20 - k)) else if 7 ≤ k then cell (peerN c (13 - k)) 1 c else cell (peerN c (6 - k)) 3 c
def amt (k : ℕ) : ℕ := if 14 ≤ k then 1 else N

/-- What is owed with `k` steps left. -/
def owed (c : Dev nD) : ℕ → CellTallies nD τ sig Unit
  | 0 => 0
  | k + 1 => owed c k + tallyAt (tgt c k) () (amt k)

theorem owed_bar (c : Dev nD) (r : Fin 7) : owed c (21 - r.val) = owed c (21 - (r.val + 1)) + tallyAt (barCell (peer c r)) () 1 := by
  fin_cases r <;> rfl
theorem owed_first (c : Dev nD) (r : Fin 7) : owed c (14 - r.val) = owed c (14 - (r.val + 1)) + tallyAt (cell (peer c r) 1 c) () N := by
  fin_cases r <;> rfl
theorem owed_second (c : Dev nD) (r : Fin 7) : owed c (7 - r.val) = owed c (7 - (r.val + 1)) + tallyAt (cell (peer c r) 3 c) () N := by
  fin_cases r <;> rfl

theorem owed_pos {c : Dev nD} {g : GSem nD τ sig} {u : Unit} : ∀ k, 0 < owed c k g u → ∃ j, j < k ∧ g = tgt c j
  | 0, h => absurd h (Nat.lt_irrefl 0)
  | k + 1, h => by
    unfold owed at h
    rw [Pi.add_apply, Finsupp.add_apply, tallyAt_apply] at h
    by_cases hg : g = tgt c k
    · exact ⟨k, Nat.lt_succ_self k, hg⟩
    · rw [if_neg fun h' => hg h'.1] at h
      obtain ⟨j, hj, e⟩ := owed_pos k h
      exact ⟨j, Nat.lt_succ_of_lt hj, e⟩

def L (g : GSem nD τ sig) : Finset Unit := if g.1.2 = .tc then {()} else ∅

/-- Barriers come before first landings, those before second landings, and everything else before all of them. -/
def lv (g : GSem nD τ sig) (_ : Unit) : ℕ := match g.2 with
  | .reg _ => 1
  | .dma q => if qj q = 1 then 2 else if qj q = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem L_tgt (c : Dev nD) (k : ℕ) : () ∈ L (tgt c k) := by
  unfold tgt
  split
  · rw [L_tc]; exact Finset.mem_singleton_self _
  · split <;> (rw [L_tc]; exact Finset.mem_singleton_self _)

theorem lv_cell (c : Dev nD) (j : Fin 4) (i : Fin 8) (u : Unit) : lv (cell c j i) u = if j = 1 then 2 else if j = 3 then 3 else 0 := by
  unfold lv; dsimp only; rw [qj_dq]

/-- With `k` steps left only cells above level `n` are owed: any cell is above 0, a landing above 1, a second landing
    above 2. -/
theorem lv_tgt (c : Dev nD) (j : ℕ) : 0 < lv (tgt c j) () ∧ (j < 14 → 1 < lv (tgt c j) ()) ∧ (j < 7 → 2 < lv (tgt c j) ()) := by
  unfold tgt
  split
  · exact ⟨Nat.one_pos, fun h => by omega, fun h => by omega⟩
  · split
    · rw [lv_cell, if_pos rfl]; exact ⟨by omega, fun _ => by omega, fun h => by omega⟩
    · rw [lv_cell, if_neg (by decide), if_pos rfl]; exact ⟨by omega, fun _ => by omega, fun h => by omega⟩

omit [FloatOps F] in
/-- A device that owes only above level `n` may wait on a cell of level at most `n`. -/
theorem mayWait_of (c : Dev nD) (sm : SemLoc sig) (n k : ℕ) (hs : lv ((c : Thread nD τ), sm) () ≤ n) (ho : ∀ j, j < k → n < lv (tgt c j) ()) :
    (levAts L lv : sProp 𝕄) ⊢ MayWait (c : Thread nD τ) sm () (owed c k) :=
  MayOwe.of_cut (L := L) (lev := lv) n (fun p hp => by rw [Finset.mem_singleton.mp hp, L_tc]; exact Finset.mem_singleton_self _)
    (fun g u hg => by obtain ⟨j, -, rfl⟩ := owed_pos k hg; exact L_tgt c j)
    (fun p hp => by rw [Finset.mem_singleton.mp hp]; exact hs)
    (fun g u hg => by obtain ⟨j, hj, rfl⟩ := owed_pos k hg; exact ho j hj)

omit [FloatOps F] in
theorem mayWait_bar (c : Dev nD) : (levAts L lv : sProp 𝕄) ⊢ MayWait (c : Thread nD τ) (.reg barS) () (owed c 14) :=
  mayWait_of c _ 1 14 (Nat.le_refl 1) fun j hj => (lv_tgt c j).2.1 hj
omit [FloatOps F] in
/-- A transfer cell other than a second landing's may be waited on once both the signals and the first transfers are made; -/
theorem mayWait_cell7 (c : Dev nD) (j : Fin 4) (i : Fin 8) (h : j ≠ 3) : (levAts L lv : sProp 𝕄) ⊢ MayWait (c : Thread nD τ) (.dma (dq j i)) () (owed c 7) :=
  mayWait_of c _ 2 7 (by show lv (cell c j i) () ≤ 2; rw [lv_cell, if_neg h]; split <;> omega) fun j hj => (lv_tgt c j).2.2 hj
omit [FloatOps F] in
/-- and any cell when nothing is owed. -/
theorem mayWait_zero (c : Dev nD) (sm : SemLoc sig) : (levAts L lv : sProp 𝕄) ⊢ MayWait (c : Thread nD τ) sm () (owed c 0) := by
  show _ ⊢ MayWait (c : Thread nD τ) sm () 0
  rw [MayWait_zero]; iintro -; iempintro

end Cert.KernelIdeal.Pf
-- ==== Proof.KernelIdeal.Steps.lean ====
/-
One step of each kind a device takes towards the others: a signal, the wait on its barrier, a transfer, a wait on a
transfer. Each is stated for the `r`-th of seven alike, over what is left of all seven.
-/
module

public import proofs.«01_k».proof.Proof.KernelIdeal.Protocol

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Every cell, and what is known of it throughout -/

/-- A device's cells: its barrier and its transfer cells. -/
abbrev CIx : Type := Unit ⊕ (Fin 4 × Fin 8)

abbrev osem (k : Fin 4 × Fin 8) : SemLoc sig := .dma (dq k.1 k.2)
abbrev csem (k : CIx) : SemLoc sig := match k with
  | .inl _ => .reg barS
  | .inr k => osem k
abbrev kcell (ck : Dev nD × CIx) : GSem nD τ sig := ((ck.1 : Thread nD τ), csem ck.2)

/-- The cells' invariants, that each has reached its first round, and the levels: what every device knows throughout. -/
def known (K : Dev nD × CIx → ℕ) : sProp 𝕄 :=
  iprop((bigSep Finset.univ fun ck : Dev nD × CIx => cellInv ER (sched m ρ) (K ck) (kcell ck))
    ∗ (bigSep Finset.univ fun ck : Dev nD × CIx => reached ER (kcell ck) 0) ∗ levAts L lv)

instance known_persistent (K : Dev nD × CIx → ℕ) : BI.Persistent (known m ρ K) := by unfold known; infer_instance

section Steps
variable (K : Dev nD × CIx → ℕ)

theorem known_inv (ck : Dev nD × CIx) : known m ρ K ⊢ cellInv ER (sched m ρ) (K ck) (kcell ck) := by
  unfold known; iintro ⟨H, -⟩
  iapply (show bigSep Finset.univ (fun ck : Dev nD × CIx => (cellInv ER (sched m ρ) (K ck) (kcell ck) : sProp 𝕄)) ⊢ cellInv ER (sched m ρ) (K ck) (kcell ck)
    from bigSep_elim (Finset.mem_univ ck))
  iexact H
theorem known_reached (ck : Dev nD × CIx) : known m ρ K ⊢ reached ER (kcell ck) 0 := by
  unfold known; iintro ⟨-, H, -⟩
  iapply (show bigSep Finset.univ (fun ck : Dev nD × CIx => (reached ER (kcell ck) 0 : sProp 𝕄)) ⊢ reached ER (kcell ck) 0
    from bigSep_elim (Finset.mem_univ ck))
  iexact H
theorem known_lev : known m ρ K ⊢ (levAts L lv : sProp 𝕄) := by
  unfold known; iintro ⟨-, -, H⟩; iexact H

/-! ## Seven alike, some done -/

/-- Of seven alike the first `n` are at `B`, the others still at `A`. -/
def mid (n : ℕ) (A B : Fin 7 → sProp 𝕄) : sProp 𝕄 := bigSep Finset.univ fun r : Fin 7 => if n ≤ r.val then A r else B r

/-- All but the `r`-th. -/
def midRest (r : Fin 7) (A B : Fin 7 → sProp 𝕄) : sProp 𝕄 :=
  bigSep (Finset.univ.erase r) fun q : Fin 7 => if r.val ≤ q.val then A q else B q

omit [FloatOps F] in
theorem mid_zero (A B : Fin 7 → sProp 𝕄) : mid 0 A B = bigSep Finset.univ A := by
  unfold mid; exact bigSep_congr fun r _ => if_pos (Nat.zero_le _)
omit [FloatOps F] in
theorem mid_seven (A B : Fin 7 → sProp 𝕄) : mid 7 A B = bigSep Finset.univ B := by
  unfold mid; exact bigSep_congr fun r _ => if_neg (by have := r.isLt; omega)
omit [FloatOps F] in
theorem mid_take (r : Fin 7) (A B : Fin 7 → sProp 𝕄) : mid r.val A B = iprop(A r ∗ midRest r A B) := by
  unfold mid midRest; rw [bigSep_univ_at _ r, if_pos (Nat.le_refl _)]
omit [FloatOps F] in
theorem mid_put (r : Fin 7) (A B : Fin 7 → sProp 𝕄) : mid (r.val + 1) A B = iprop(B r ∗ midRest r A B) := by
  unfold mid midRest
  rw [bigSep_univ_at _ r, if_neg (by omega)]
  congr 1
  refine bigSep_congr fun q hq => ?_
  have hne : q.val ≠ r.val := fun h => (Finset.mem_erase.mp hq).1 (Fin.ext h)
  by_cases h : r.val ≤ q.val
  · rw [if_pos h, if_pos (by omega)]
  · rw [if_neg h, if_neg (by omega)]

/-- What a device still owes, whatever it has waited on. -/
def OW (c : Dev nD) (O : CellTallies nD τ sig Unit) : sProp 𝕄 := iprop(∃ W, owes (c : Thread nD τ) O W)

abbrev 𝒱₀ : Variants := Variants.none

/-- What the program `p` on device `c` needs for `Q` to hold at its end. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The signals -/

def sigPre (c : Dev nD) (r : Fin 7) : sProp 𝕄 :=
  iprop(dutyTok ER (barCell (peer c r)) 0 c ∗ (∃ f, slotPts (F := F) gM c (peer c r) f) ∗ (∃ f, slotPts (F := F) rM c (peer c r) f))

def SigSt (c : Dev nD) (n : ℕ) : sProp 𝕄 := iprop(OW c (owed c (21 - n)) ∗ mid n (sigPre c) (fun _ => iprop(emp)))

theorem sig_step (c n : Dev nD) (r : Fin 7) (a b : ℕ) (ha : a = r.val) (hb : b = r.val + 1) (hn : n = peer c r) {k' : ℕ} (hk : 1 = k') {α : Type} {Q : α → sProp 𝕄}
    {k : PUnit → Prog (TpuEff nD τ sig (Elt F) Λ₀ .tc) α} :
    iprop(known m ρ K ∗ SigSt c a) ⊢ iprop(((known m ρ K ∗ SigSt c b) -∗ WP c (k ⟨⟩) Q) -∗ WP c (.op (.semSignal (n : Thread nD τ) barS k') k) Q) := by
  subst ha hb hn hk
  unfold SigSt OW
  rw [mid_take, mid_put]
  iintro ⟨#HK, ⟨%W, HO⟩, Hp, HR⟩ Hk
  unfold sigPre
  icases Hp with ⟨Ht, Hpay⟩
  iapply (Rounds.wp_signal 𝒱₀ ER (sched m ρ) (c : Thread nD τ) none (dst := (peer c r : Thread nD τ)) (κ := K (peer c r, .inl ()))
      (d := c) (by rw [duties_bar]; exact Finset.mem_erase.mpr ⟨(peer_ne c r).symm, Finset.mem_univ _⟩) (amount_bar m ρ (peer c r) c) ()
      (owed c (21 - (r.val + 1))) (owed_bar c r)) $$ [HO Ht Hpay]
  · isplitr; · iapply (known_inv m ρ K (peer c r, .inl ())); iexact HK
    isplitl [HO]; · iexact HO
    isplitl [Ht]; · iexact Ht
    isplitl [Hpay]
    · rw [payload_bar]; unfold barPay; iexact Hpay
    iapply (known_reached m ρ K (peer c r, .inl ())); iexact HK
  iintro HO
  iapply Hk
  isplitr; · iexact HK
  isplitl [HO]; · iexists W; iexact HO
  isplitr; · iempintro
  iexact HR

/-! ## The wait on the barrier -/

theorem bar_wait (c : Dev nD) {k' : ℕ} (hk : k' = 7) {α : Type} {Q : α → sProp 𝕄} {k : PUnit → Prog (TpuEff nD τ sig (Elt F) Λ₀ .tc) α} :
    iprop(known m ρ K ∗ OW c (owed c 14) ∗ cred (tallyAt (barCell c) () 7) ∗ atPos ER (barCell c) 0 ∅ 0)
      ⊢ iprop(((OW c (owed c 14) ∗ atPos ER (barCell c) 1 ∅ 0 ∗ bigSep Finset.univ fun r : Fin 7 => barPay (F := F) c (peer c r)) -∗ WP c (k ⟨⟩) Q)
        -∗ WP c (.op (.semWait barS k') k) Q) := by
  subst hk
  unfold OW
  iintro ⟨#HK, ⟨%W, HO⟩, Hc, Ha⟩ Hk
  iapply (Rounds.wp_wait_rest_token 𝒱₀ ER (sched m ρ) (c : Thread nD τ) none (κ := K (c, .inl ()))
      (wpE_semWait_eq 𝒱₀ (c : Thread nD τ) none Set.univ) (Set.mem_univ _) () (O := owed c 14) (W := W) (R := 0) (m := 0) (T := ∅)
      (by rw [expect_bar])) $$ [HO Hc Ha]
  · isplitr; · iapply (known_inv m ρ K (c, .inl ())); iexact HK
    isplitl [Hc]; · iexact Hc
    isplitl [HO]; · iexact HO
    isplitr; · iapply (mayWait_bar c); iapply (known_lev m ρ K); iexact HK
    iexact Ha
  iintro ⟨HO, Ha, -, Hp⟩
  ihave Hp := (Entails.of_eq (rest_bar m ρ c)) $$ Hp
  iapply Hk
  isplitl [HO]; · iexists _; iexact HO
  isplitl [Ha]; · iexact Ha
  iexact Hp

/-! ## The transfers -/

omit [FloatOps F] in
theorem slotM_credit (M : Memref sig .tc .vmem S8x1024x128 .bf16) (s : Fin 8) : (slotM M s).view.dmaCredit = N := rfl

section Send
variable (js jr : Fin 4) (Ms Md : Memref sig .tc .vmem S8x1024x128 .bf16) (Cs : ∀ c : Dev nD, Buf (Elt F) (Ms.view.loc (c : Thread nD τ))) (b : ℕ)

def sendPre (c : Dev nD) (r : Fin 7) : sProp 𝕄 :=
  iprop(dutyTok ER (cell c js (peer c r)) 0 (peer c r) ∗ dutyTok ER (cell (peer c r) jr c) 0 c
    ∗ slotPts Ms c (peer c r) (Cs c) ∗ (∃ f, slotPts (F := F) Md (peer c r) c f))

def SendSt (c : Dev nD) (n : ℕ) : sProp 𝕄 :=
  iprop(OW c (owed c (b - n)) ∗ mid n (sendPre js jr Ms Md Cs c) (fun r => cred (tallyAt (cell c js (peer c r)) () N)))

theorem send_step (Cd : ∀ c : Dev nD, Buf (Elt F) (Md.view.loc (c : Thread nD τ)))
    (hp₁ : ∀ c i, pay m ρ c js i = slotPts Ms c i (Cs c)) (hp₂ : ∀ c i, pay m ρ c jr i = slotPts Md c i (Cd c))
    (hland : ∀ c d : Dev nD, (Md.access (slotR c)).read (Elt F) (Cd d) = (Ms.access (slotR d)).read (Elt F) (Cs c))
    (hO : ∀ c r, owed c (b - r.val) = owed c (b - (r.val + 1)) + tallyAt (cell (peer c r) jr c) () N)
    (c n : Dev nD) (r : Fin 7) (a e : ℕ) (ha : a = r.val) (he : e = r.val + 1) (hn : n = peer c r) (src dst : Memref sig .tc .vmem S1024x128 .bf16)
    (hs : src = slotM Ms (peer c r)) (hd : dst = slotM Md c) (qs qr : DmaSem sig) (hqs : qs = dq js (peer c r)) (hqr : qr = dq jr c)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α} :
    iprop(known m ρ K ∗ SendSt js jr Ms Md Cs b c a)
      ⊢ iprop(((known m ρ K ∗ SendSt js jr Ms Md Cs b c e) -∗ WP c (k ⟨⟩) Q)
        -∗ WP c (.op (.enqueueDma src (.remote (Dev.tc n : Thread nD τ) dst (.dma qs) hsc) (.dma qr) hsrc hdst hsem) k) Q) := by
  subst ha he hn hs hd hqs hqr
  unfold SendSt OW
  rw [mid_take, mid_put]
  unfold sendPre
  iintro ⟨#HK, ⟨%W, HO⟩, ⟨Ht1, Ht2, Hs, ⟨%fd, Hd⟩⟩, HR⟩ Hk
  ihave Hs := (Entails.of_eq (slotPts_slotM Ms c (peer c r) (Cs c)).symm) $$ Hs
  ihave Hd := (Entails.of_eq (slotPts_slotM Md (peer c r) c fd).symm) $$ Hd
  iapply (Rounds.wp_send_pointsTo 𝒱₀ ER (sched m ρ) (c : Thread nD τ) none (κ₁ := K (c, .inr (js, peer c r))) (κ₂ := K (peer c r, .inr (jr, c)))
    (r₁ := 0) (r₂ := 0) (d₁ := peer c r) (d₂ := c) (c' := (peer c r : Thread nD τ)) (src := slotM Ms (peer c r)) (dst := slotM Md c) (sS := .dma (dq js (peer c r))) (sem := .dma (dq jr c)) (fs := Cs c) (fd := fd)
    (by rw [duties_cell m ρ c js (peer c r) (peer_ne c r)]; exact Finset.mem_singleton_self _)
    (by rw [duties_cell m ρ (peer c r) jr c (peer_ne c r).symm]; exact Finset.mem_singleton_self _)
    () () N (slotM_credit Md c) (amount_cell m ρ c js (peer c r) (peer c r)) (amount_cell m ρ (peer c r) jr c c) (owed c (b - (r.val + 1))) (hO c r) (W := W)
    (by rw [payload_cell, hp₁]; exact Entails.of_eq (slotPts_slotM Ms c (peer c r) (Cs c)))
    (by rw [payload_cell, hp₂]; exact Entails.of_eq (slotPts_landed Md Ms (peer c r) c (peer c r) fd (Cd (peer c r)) (Cs c) (hland c (peer c r)))))
    $$ [HO Ht1 Ht2 Hs Hd]
  · isplitr; · iapply (known_inv m ρ K (c, .inr (js, peer c r))); iexact HK
    isplitr; · iapply (known_inv m ρ K (peer c r, .inr (jr, c))); iexact HK
    isplitl [Hs]; · iexact Hs
    isplitl [Hd]; · iexact Hd
    isplitl [HO]; · iexact HO
    isplitl [Ht1]; · iexact Ht1
    isplitr; · iapply (known_reached m ρ K (c, .inr (js, peer c r))); iexact HK
    isplitl [Ht2]; · iexact Ht2
    iapply (known_reached m ρ K (peer c r, .inr (jr, c))); iexact HK
  iintro ⟨Hc, HO⟩
  iapply Hk
  isplitr; · iexact HK
  isplitl [HO]; · iexists W; iexact HO
  isplitl [Hc]; · iexact Hc
  iexact HR

end Send

/-! ## The waits on the transfers -/

def waitPre (j : Fin 4) (c : Dev nD) (r : Fin 7) : sProp 𝕄 :=
  iprop(cred (tallyAt (cell c j (peer c r)) () N) ∗ atPos ER (cell c j (peer c r)) 0 ∅ 0)
def waitPost (j : Fin 4) (c : Dev nD) (r : Fin 7) : sProp 𝕄 :=
  iprop(atPos ER (cell c j (peer c r)) 1 ∅ 0 ∗ pay m ρ c j (peer c r))

def WaitSt (j : Fin 4) (b : ℕ) (c : Dev nD) (n : ℕ) : sProp 𝕄 := iprop(OW c (owed c b) ∗ mid n (waitPre j c) (waitPost m ρ j c))

theorem wait_step (j : Fin 4) (b : ℕ) (c : Dev nD) (hw : ∀ i, (levAts L lv : sProp 𝕄) ⊢ MayWait (c : Thread nD τ) (.dma (dq j i)) () (owed c b))
    (r : Fin 7) (a e : ℕ) (ha : a = r.val) (he : e = r.val + 1) (q : DmaSem sig) (hq : q = dq j (peer c r)) (src dst : Memref sig .tc .vmem S1024x128 .bf16) (hN : dst.view.dmaCredit = N)
    {hsrc : src.view.WordExact} {hdst : dst.view.WordExact}
    {α : Type} {Q : α → sProp 𝕄} {k : PUnit → Prog (TpuEff nD τ sig (Elt F) Λ₀ .tc) α} :
    iprop(known m ρ K ∗ WaitSt m ρ j b c a)
      ⊢ iprop(((known m ρ K ∗ WaitSt m ρ j b c e) -∗ WP c (k ⟨⟩) Q) -∗ WP c (.op (.waitDma2 q src dst hsrc hdst) k) Q) := by
  subst ha he hq
  unfold WaitSt OW
  rw [mid_take, mid_put]
  unfold waitPre waitPost
  iintro ⟨#HK, ⟨%W, HO⟩, ⟨Hc, Ha⟩, HR⟩ Hk
  iapply (Rounds.wp_wait_rest_token 𝒱₀ ER (sched m ρ) (c : Thread nD τ) none (κ := K (c, .inr (j, peer c r)))
      (wpE_waitDma2_eq 𝒱₀ (c : Thread nD τ) none Set.univ) (Set.mem_univ _) () (O := owed c b) (W := W) (R := 0) (m := 0) (T := ∅)
      ((Nat.zero_add _).trans (hN.trans (expect_cell m ρ c j (peer c r) (peer_ne c r)).symm))) $$ [HO Hc Ha]
  · isplitr; · iapply (known_inv m ρ K (c, .inr (j, peer c r))); iexact HK
    isplitl [Hc]; · rw [hN]; iexact Hc
    isplitl [HO]; · iexact HO
    isplitr; · iapply (hw (peer c r)); iapply (known_lev m ρ K); iexact HK
    iexact Ha
  iintro ⟨HO, Ha, -, Hp⟩
  ihave Hp := (Entails.of_eq (rest_cell m ρ c j (peer c r) (peer_ne c r))) $$ Hp
  iapply Hk
  isplitr; · iexact HK
  isplitl [HO]; · iexists _; iexact HO
  isplitr [HR]
  · isplitl [Ha]; · iexact Ha
    iexact Hp
  iexact HR

end Steps

end Cert.KernelIdeal.Pf
-- ==== Proof.KernelIdeal.Local.lean ====
/-
The steps a device takes in its own memory: folding a block of columns into a slot, copying its own slot across,
sorting what it gathered, and unfolding a slot into a block of columns.
-/
module

public import proofs.«01_k».proof.Proof.KernelIdeal.Steps

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A buffer of device `c` held whole, at contents `f`. -/
def held {s : Shape} (M : Memref sig .tc .vmem s .bf16) (c : Dev nD) (f : Buf (Elt F) (M.view.loc (c : Thread nD τ))) : sProp 𝕄 :=
  M.view.loc (c : Thread nD τ) ↦[M.view.set]{fullShare} f

omit [FloatOps F] in
theorem held_congr {s : Shape} (M : Memref sig .tc .vmem s .bf16) (c : Dev nD) {f g : Buf (Elt F) (M.view.loc (c : Thread nD τ))}
    (h : ∀ i ∈ M.view.set, f i = g i) : (held M c f : sProp 𝕄) = held M c g := pointsTo_congr h

omit [FloatOps F] in
theorem store_within {s : Shape} (M : Memref sig .tc .vmem s .bf16) (r : Rect s) (Mk : Finset r.shape.Idx) : (M.access r).setOn Mk ⊆ M.view.set :=
  ((M.access r).setOn_subset_set Mk).trans (M.view.set_slice_subset r)

/-! ## The fold -/

/-- The first `n` blocks of columns folded. -/
def FoldSt (c : Dev nD) (n : ℕ) : sProp 𝕄 :=
  iprop(held xM c (xstg m ρ c) ∗ ∃ f, ⌜Upto sM slotR (fun t => foldB m ρ c t) n f⌝ ∗ held sM c f)

theorem fold_step (c : Dev nD) (t : Fin 8) (a b : ℕ) (ha : a = t.val) (hb : b = t.val + 1) (o1 : Fin 2 → ℕ) (h1 : o1 = ![0, 64 * t.val]) (o2 : Fin 3 → ℕ) (h2 : o2 = ![t.val, 0, 0])
    (p : Vec F S2048x64 .bf16 → Vec F S1x1024x128 .bf16) (hp : p = k0_pay1)
    {i1 : ∀ a, o1 a + S2048x64.size a ≤ S2048x512.size a} {i2 : ∀ a, o2 a + S1x1024x128.size a ≤ S8x1024x128.size a}
    {hl1 : (xM : Memref sig .tc .vmem S2048x512 .bf16).view.LoadsAt (Rect.unit (s := S2048x512) o1 S2048x64.size i1).toLoadRect}
    {hl2 : (sM : Memref sig .tc .vmem S8x1024x128 .bf16).view.LoadsAt (Rect.unit (s := S8x1024x128) o2 S1x1024x128.size i2).toLoadRect}
    {hx : ((sM : Memref sig .tc .vmem S8x1024x128 .bf16).access (Rect.unit (s := S8x1024x128) o2 S1x1024x128.size i2)).Stores Finset.univ}
    {hm : Finset.univ = Finset.univ ∨ ∀ a, (Rect.unit (s := S8x1024x128) o2 S1x1024x128.size i2).stride a = 1}
    {α : Type} {Q : α → sProp 𝕄} {k : PUnit → Prog (TpuEff nD τ sig (Elt F) Λ₀ .tc) α} :
    FoldSt m ρ c a ⊢ iprop((FoldSt m ρ c b -∗ WP c (k ⟨⟩) Q)
      -∗ WP c (.op (.load xM (Rect.unit (s := S2048x512) o1 S2048x64.size i1).toLoadRect hl1) fun v =>
        .op (.load sM (Rect.unit (s := S8x1024x128) o2 S1x1024x128.size i2).toLoadRect hl2) fun _ =>
        .op (.store sM (Rect.unit (s := S8x1024x128) o2 S1x1024x128.size i2) (p v) Finset.univ hx hm) k) Q) := by
  subst ha hb h1 h2 hp
  unfold FoldSt held
  iintro ⟨Hx, ⟨%f, %hf, Hs⟩⟩ Hk
  iapply (wp_load_rect 𝒱₀ (c : Thread nD τ) none Set.univ (m := xM) (r := colR t) ((xM : Memref sig .tc .vmem S2048x512 .bf16).view.set_slice_subset _)) $$ Hx
  iintro Hx
  iapply (wp_load_rect 𝒱₀ (c : Thread nD τ) none Set.univ (m := sM) (r := slotR t) ((sM : Memref sig .tc .vmem S8x1024x128 .bf16).view.set_slice_subset _)) $$ Hs
  iintro Hs
  iapply (wp_store 𝒱₀ (c : Thread nD τ) none Set.univ (m := sM) (r := slotR t) (Mk := Finset.univ) (store_within sM (slotR t) _)) $$ Hs
  iintro Hs
  iapply Hk
  isplitl [Hx]; · iexact Hx
  iexists _
  isplitr
  · ipureintro; exact Upto.store sM slotR slotR_disj hf t rfl
  iexact Hs

theorem fold_start (c : Dev nD) (f : Buf (Elt F) ((sM : Memref sig .tc .vmem S8x1024x128 .bf16).view.loc (c : Thread nD τ))) :
    iprop(held xM c (xstg m ρ c) ∗ held sM c f) ⊢ FoldSt m ρ c 0 := by
  unfold FoldSt
  iintro ⟨H1, H2⟩
  isplitl [H1]; · iexact H1
  iexists f
  isplitr
  · ipureintro; exact upto_zero _ _ _ _
  iexact H2

/-- All eight folded: the send buffer holds the device's folded blocks. -/
theorem fold_done (c : Dev nD) : FoldSt m ρ c 8 ⊢ iprop(held xM c (xstg m ρ c) ∗ held sM c (sendC m ρ c)) := by
  unfold FoldSt
  iintro ⟨Hx, ⟨%f, %hf, Hs⟩⟩
  isplitl [Hx]; · iexact Hx
  have e := held_congr sM c (f := f) (g := sendC m ρ c) (agree_of_pieces sM slotR slotR_cover
    (fun t => (hf t t.isLt).trans (slotOf_sendC m ρ c t).symm))
  ihave Hs := (Entails.of_eq e) $$ Hs
  iexact Hs

/-! ## A device's own slot -/

theorem own_copy (Ms Md : Memref sig .tc .vmem S8x1024x128 .bf16) (c : Dev nD) (fs : Buf (Elt F) (Ms.view.loc (c : Thread nD τ)))
    (fd : Buf (Elt F) (Md.view.loc (c : Thread nD τ)))
    (h : (Md.access (slotR c)).read (Elt F) fd = (Ms.access (slotR c)).read (Elt F) fs)
    (o : Fin 3 → ℕ) (ho : o = ![c.val, 0, 0]) (p : Vec F S1x1024x128 .bf16 → Vec F S1x1024x128 .bf16) (hp : ∀ v, p v = v)
    {i : ∀ a, o a + S1x1024x128.size a ≤ S8x1024x128.size a}
    {hl1 : Ms.view.LoadsAt (Rect.unit (s := S8x1024x128) o S1x1024x128.size i).toLoadRect}
    {hl2 : Md.view.LoadsAt (Rect.unit (s := S8x1024x128) o S1x1024x128.size i).toLoadRect}
    {hx : (Md.access (Rect.unit (s := S8x1024x128) o S1x1024x128.size i)).Stores Finset.univ}
    {hm : Finset.univ = Finset.univ ∨ ∀ a, (Rect.unit (s := S8x1024x128) o S1x1024x128.size i).stride a = 1}
    {α : Type} {Q : α → sProp 𝕄} {k : PUnit → Prog (TpuEff nD τ sig (Elt F) Λ₀ .tc) α} :
    iprop(slotPts Ms c c fs ∗ ∃ f, slotPts (F := F) Md c c f) ⊢ iprop(((slotPts Ms c c fs ∗ slotPts Md c c fd) -∗ WP c (k ⟨⟩) Q)
      -∗ WP c (.op (.load Ms (Rect.unit (s := S8x1024x128) o S1x1024x128.size i).toLoadRect hl1) fun v =>
        .op (.load Md (Rect.unit (s := S8x1024x128) o S1x1024x128.size i).toLoadRect hl2) fun _ =>
        .op (.store Md (Rect.unit (s := S8x1024x128) o S1x1024x128.size i) (p v) Finset.univ hx hm) k) Q) := by
  subst ho
  unfold slotPts
  iintro ⟨Hs, ⟨%f, Hd⟩⟩ Hk
  iapply (wp_load_rect 𝒱₀ (c : Thread nD τ) none Set.univ (m := Ms) (r := slotR c) (Finset.Subset.refl _)) $$ Hs
  iintro Hs
  iapply (wp_load_rect 𝒱₀ (c : Thread nD τ) none Set.univ (m := Md) (r := slotR c) (Finset.Subset.refl _)) $$ Hd
  iintro Hd
  iapply (wp_store 𝒱₀ (c : Thread nD τ) none Set.univ (m := Md) (r := slotR c) (Mk := Finset.univ) ((Md.access (slotR c)).setOn_subset_set _)) $$ Hd
  iintro Hd
  iapply Hk
  isplitl [Hs]; · iexact Hs
  have e := slotPts_congr (F := F) Md c c (f := (Md.access (slotR c)).write (Elt F) f (p ((Ms.access (slotR c)).read (Elt F) fs)) Finset.univ) (g := fd)
    ((View.read_write_univ _ _).trans ((hp _).trans h.symm))
  unfold slotPts at e
  ihave Hd := (Entails.of_eq e) $$ Hd
  iexact Hd

/-! ## The sort -/

theorem zero3 : (![0, 0, 0] : Fin 3 → Nat) = fun _ => 0 := funext fun a => by fin_cases a <;> rfl

theorem sort_step (c : Dev nD) (o : Fin 3 → ℕ) (ho : o = fun _ => 0) (p : Vec F S8x1024x128 .bf16 → Vec F S8x1024x128 .bf16)
    (hp : ∀ v, p v = k0_pay24 (sortVec (k0_pay11 v)))
    {i : ∀ a, o a + S8x1024x128.size a ≤ S8x1024x128.size a}
    {hl1 hl2 : (gM : Memref sig .tc .vmem S8x1024x128 .bf16).view.LoadsAt (Rect.unit (s := S8x1024x128) o S8x1024x128.size i).toLoadRect}
    {hx : ((gM : Memref sig .tc .vmem S8x1024x128 .bf16).access (Rect.unit (s := S8x1024x128) o S8x1024x128.size i)).Stores Finset.univ}
    {hm : Finset.univ = Finset.univ ∨ ∀ a, (Rect.unit (s := S8x1024x128) o S8x1024x128.size i).stride a = 1}
    {α : Type} {Q : α → sProp 𝕄} {k : PUnit → Prog (TpuEff nD τ sig (Elt F) Λ₀ .tc) α} :
    held gM c (gathC m ρ c) ⊢ iprop((held gM c (sortC m ρ c) -∗ WP c (k ⟨⟩) Q)
      -∗ WP c (.op (.load gM (Rect.unit (s := S8x1024x128) o S8x1024x128.size i).toLoadRect hl1) fun v =>
        .op (.load gM (Rect.unit (s := S8x1024x128) o S8x1024x128.size i).toLoadRect hl2) fun _ =>
        .op (.store gM (Rect.unit (s := S8x1024x128) o S8x1024x128.size i) (p v) Finset.univ hx hm) k) Q) := by
  have e1 : (gM : Memref sig .tc .vmem S8x1024x128 .bf16).view.readAt (Elt F) (Rect.unit (s := S8x1024x128) o S8x1024x128.size i).toLoadRect (gathC m ρ c)
      = gathC m ρ c := Memref.readAt_unit_zero (Elt F) cc0_scratch1 ho i (gathC m ρ c)
  have e2 : ∀ w, ((gM : Memref sig .tc .vmem S8x1024x128 .bf16).access (Rect.unit (s := S8x1024x128) o S8x1024x128.size i)).write (Elt F) (gathC m ρ c) w Finset.univ
      = w := fun w => Memref.write_access_unit_zero_univ (Elt F) cc0_scratch1 ho i (gathC m ρ c) w
  unfold held
  iintro Hg Hk
  iapply (wp_load 𝒱₀ (c : Thread nD τ) none Set.univ (m := gM) ((gM : Memref sig .tc .vmem S8x1024x128 .bf16).view.setOn_subset_set _)) $$ Hg
  iintro Hg
  rw [e1]
  iapply (wp_load 𝒱₀ (c : Thread nD τ) none Set.univ (m := gM) ((gM : Memref sig .tc .vmem S8x1024x128 .bf16).view.setOn_subset_set _)) $$ Hg
  iintro Hg
  iapply (wp_store 𝒱₀ (c : Thread nD τ) none Set.univ (m := gM) (r := Rect.unit (s := S8x1024x128) o S8x1024x128.size i) (Mk := Finset.univ) (store_within gM _ _)) $$ Hg
  iintro Hg
  rw [e2, hp]
  iapply Hk
  iexact Hg

/-! ## The unfolding -/

/-- The first `n` slots unfolded. -/
def UnfSt (c : Dev nD) (n : ℕ) : sProp 𝕄 :=
  iprop(held rM c (routC m ρ c) ∗ ∃ f, ⌜Upto oM colR (fun t => k0_pay30 (slotOf (routC m ρ c) t)) n f⌝ ∗ held oM c f)

omit [FloatOps F] in
theorem read_slot (f : Vec F S8x1024x128 .bf16) (t : Fin 8) :
    ((rM : Memref sig .tc .vmem S8x1024x128 .bf16).access (slotR t)).read (Elt F) f = slotOf f t := rfl

theorem unf_step (c : Dev nD) (t : Fin 8) (a b : ℕ) (ha : a = t.val) (hb : b = t.val + 1) (o1 : Fin 2 → ℕ) (h1 : o1 = ![0, 64 * t.val]) (o2 : Fin 3 → ℕ) (h2 : o2 = ![t.val, 0, 0])
    (p : Vec F S1x1024x128 .bf16 → Vec F S2048x64 .bf16) (hp : p = k0_pay30)
    {i1 : ∀ a, o1 a + S2048x64.size a ≤ S2048x512.size a} {i2 : ∀ a, o2 a + S1x1024x128.size a ≤ S8x1024x128.size a}
    {hl1 : (oM : Memref sig .tc .vmem S2048x512 .bf16).view.LoadsAt (Rect.unit (s := S2048x512) o1 S2048x64.size i1).toLoadRect}
    {hl2 : (rM : Memref sig .tc .vmem S8x1024x128 .bf16).view.LoadsAt (Rect.unit (s := S8x1024x128) o2 S1x1024x128.size i2).toLoadRect}
    {hx : ((oM : Memref sig .tc .vmem S2048x512 .bf16).access (Rect.unit (s := S2048x512) o1 S2048x64.size i1)).Stores Finset.univ}
    {hm : Finset.univ = Finset.univ ∨ ∀ a, (Rect.unit (s := S2048x512) o1 S2048x64.size i1).stride a = 1}
    {α : Type} {Q : α → sProp 𝕄} {k : PUnit → Prog (TpuEff nD τ sig (Elt F) Λ₀ .tc) α} :
    UnfSt m ρ c a ⊢ iprop((UnfSt m ρ c b -∗ WP c (k ⟨⟩) Q)
      -∗ WP c (.op (.load rM (Rect.unit (s := S8x1024x128) o2 S1x1024x128.size i2).toLoadRect hl2) fun v =>
        .op (.load oM (Rect.unit (s := S2048x512) o1 S2048x64.size i1).toLoadRect hl1) fun _ =>
        .op (.store oM (Rect.unit (s := S2048x512) o1 S2048x64.size i1) (p v) Finset.univ hx hm) k) Q) := by
  subst ha hb h1 h2 hp
  unfold UnfSt held
  iintro ⟨Hr, ⟨%f, %hf, Ho⟩⟩ Hk
  iapply (wp_load_rect 𝒱₀ (c : Thread nD τ) none Set.univ (m := rM) (r := slotR t) ((rM : Memref sig .tc .vmem S8x1024x128 .bf16).view.set_slice_subset _)) $$ Hr
  iintro Hr
  rw [read_slot]
  iapply (wp_load_rect 𝒱₀ (c : Thread nD τ) none Set.univ (m := oM) (r := colR t) ((oM : Memref sig .tc .vmem S2048x512 .bf16).view.set_slice_subset _)) $$ Ho
  iintro Ho
  iapply (wp_store 𝒱₀ (c : Thread nD τ) none Set.univ (m := oM) (r := colR t) (Mk := Finset.univ) (store_within oM (colR t) _)) $$ Ho
  iintro Ho
  iapply Hk
  isplitl [Hr]; · iexact Hr
  iexists _
  isplitr
  · ipureintro; exact Upto.store oM colR colR_disj hf t rfl
  iexact Ho

theorem unf_start (c : Dev nD) (f : Buf (Elt F) ((oM : Memref sig .tc .vmem S2048x512 .bf16).view.loc (c : Thread nD τ))) :
    iprop(held rM c (routC m ρ c) ∗ held oM c f) ⊢ UnfSt m ρ c 0 := by
  unfold UnfSt
  iintro ⟨H1, H2⟩
  isplitl [H1]; · iexact H1
  iexists f
  isplitr
  · ipureintro; exact upto_zero _ _ _ _
  iexact H2

/-- All eight unfolded: the result. -/
theorem unf_done (c : Dev nD) : UnfSt m ρ c 8 ⊢ iprop(held rM c (routC m ρ c) ∗ held oM c (outC m ρ c)) := by
  unfold UnfSt
  iintro ⟨Hr, ⟨%f, %hf, Ho⟩⟩
  isplitl [Hr]; · iexact Hr
  have e := held_congr oM c (f := f) (g := outC m ρ c) (agree_of_pieces oM colR colR_cover
    (fun t => (hf t t.isLt).trans (colsOf_outC m ρ c t).symm))
  ihave Ho := (Entails.of_eq e) $$ Ho
  iexact Ho

end Cert.KernelIdeal.Pf
-- ==== Proof.KernelIdeal.Phases.lean ====
/-
What a device holds between the phases of the kernel, and how the holdings of one phase are rearranged into those of the
next: buffers cut into slots and joined again, and the cells closed at the end.
-/
module

public import proofs.«01_k».proof.Proof.KernelIdeal.Local

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Own and others -/

omit [FloatOps F] in
/-- Of the eight devices: this one, and its seven peers. -/
theorem bigSep_peers (c : Dev nD) (Φ : Dev nD → sProp 𝕄) :
    bigSep Finset.univ Φ = iprop(Φ c ∗ bigSep Finset.univ fun r : Fin 7 => Φ (peer c r)) := by
  rw [bigSep_univ_at _ c, ← univ_map_peer, bigSep_map]; rfl

omit [FloatOps F] in
theorem held_peers (M : Memref sig .tc .vmem S8x1024x128 .bf16) (c : Dev nD) (f : Buf (Elt F) (M.view.loc (c : Thread nD τ))) :
    (held M c f : sProp 𝕄) = iprop(slotPts M c c f ∗ bigSep Finset.univ fun r : Fin 7 => slotPts M c (peer c r) f) := by
  unfold held; rw [whole_slots, bigSep_peers c]

omit [FloatOps F] in
theorem some_slots (M : Memref sig .tc .vmem S8x1024x128 .bf16) (c : Dev nD) (f : Buf (Elt F) (M.view.loc (c : Thread nD τ))) :
    (bigSep Finset.univ fun r : Fin 7 => slotPts M c (peer c r) f : sProp 𝕄)
      ⊢ bigSep Finset.univ fun r : Fin 7 => iprop(∃ f, slotPts (F := F) M c (peer c r) f) :=
  bigSep_mono fun r _ => by
    show (slotPts M c (peer c r) f : sProp 𝕄) ⊢ iprop(∃ f, slotPts (F := F) M c (peer c r) f)
    iintro H; iexists f; iexact H

/-! ## The tokens a device pays with -/

def tokBar (c : Dev nD) : sProp 𝕄 := bigSep Finset.univ fun r : Fin 7 => dutyTok ER (barCell (peer c r)) 0 c
def tokSend (js : Fin 4) (c : Dev nD) : sProp 𝕄 := bigSep Finset.univ fun r : Fin 7 => dutyTok ER (cell c js (peer c r)) 0 (peer c r)
def tokRecv (jr : Fin 4) (c : Dev nD) : sProp 𝕄 := bigSep Finset.univ fun r : Fin 7 => dutyTok ER (cell (peer c r) jr c) 0 c

/-- All of them: for the signals and for the two rounds of transfers. -/
def payToks (c : Dev nD) : sProp 𝕄 := iprop(tokBar c ∗ (tokSend 0 c ∗ tokRecv 1 c) ∗ (tokSend 2 c ∗ tokRecv 3 c))

omit [FloatOps F] in
/-- What the signals hand over: the slots of the two landing buffers, save the device's own. -/
theorem sigPre_intro (c : Dev nD) :
    (iprop(tokBar c ∗ (∃ f, held gM c f) ∗ ∃ f, held rM c f) : sProp 𝕄)
      ⊢ iprop(mid 0 (sigPre c) (fun _ => iprop(emp)) ∗ (∃ f, slotPts (F := F) gM c c f) ∗ ∃ f, slotPts (F := F) rM c c f) := by
  rw [mid_zero]
  unfold sigPre tokBar
  simp only [bigSep_sep']
  iintro ⟨Ht, ⟨%f, Hg⟩, ⟨%g, Hr⟩⟩
  ihave Hg := (Entails.of_eq (held_peers gM c f)) $$ Hg
  ihave Hr := (Entails.of_eq (held_peers rM c g)) $$ Hr
  icases Hg with ⟨Hg, Hgs⟩
  icases Hr with ⟨Hr, Hrs⟩
  isplitl [Ht Hgs Hrs]
  · isplitl [Ht]; · iexact Ht
    isplitl [Hgs]; · iapply (some_slots gM c f) $$ Hgs
    iapply (some_slots rM c g) $$ Hrs
  isplitl [Hg]; · iexists f; iexact Hg
  iexists g; iexact Hr

omit [FloatOps F] in
/-- What the peers' signals brought: a slot of each landing buffer on each peer. -/
theorem barPay_split (c : Dev nD) : (bigSep Finset.univ fun r : Fin 7 => barPay (F := F) c (peer c r))
    = iprop((bigSep Finset.univ fun r : Fin 7 => iprop(∃ f, slotPts (F := F) gM (peer c r) c f))
      ∗ bigSep Finset.univ fun r : Fin 7 => iprop(∃ f, slotPts (F := F) rM (peer c r) c f)) := by
  unfold barPay; rw [bigSep_sep']

section Edges
variable (K : Dev nD × CIx → ℕ)

/-- The signals begin with all of the debt, and leave that of the transfers. -/
theorem sig_start (c : Dev nD) : iprop(known m ρ K ∗ OW c (owed c 21) ∗ mid 0 (sigPre c) (fun _ => iprop(emp))) ⊢ iprop(known m ρ K ∗ SigSt c 0) :=
  Entails.refl _
theorem sig_done (c : Dev nD) : iprop(known m ρ K ∗ SigSt c 7) ⊢ OW c (owed c 14) := by
  unfold SigSt
  iintro ⟨-, HO, -⟩
  iexact HO

/-- What the transfers of a round need: the tokens, the source cut into slots, the slots on the peers. -/
theorem send_start (js jr : Fin 4) (Ms Md : Memref sig .tc .vmem S8x1024x128 .bf16) (Cs : ∀ c : Dev nD, Buf (Elt F) (Ms.view.loc (c : Thread nD τ)))
    (b : ℕ) (c : Dev nD) :
    iprop(known m ρ K ∗ OW c (owed c b) ∗ (tokSend js c ∗ tokRecv jr c) ∗ (bigSep Finset.univ fun r : Fin 7 => slotPts Ms c (peer c r) (Cs c))
        ∗ bigSep Finset.univ fun r : Fin 7 => iprop(∃ f, slotPts (F := F) Md (peer c r) c f))
      ⊢ iprop(known m ρ K ∗ SendSt js jr Ms Md Cs b c 0) := by
  unfold SendSt
  rw [mid_zero]
  unfold sendPre tokSend tokRecv
  simp only [bigSep_sep', Nat.sub_zero]
  iintro ⟨HK, HO, ⟨H1, H2⟩, H3, H4⟩
  isplitl [HK]; · iexact HK
  isplitl [HO]; · iexact HO
  isplitl [H1]; · iexact H1
  isplitl [H2]; · iexact H2
  isplitl [H3]; · iexact H3
  iexact H4

/-- They leave a credit each. -/
theorem send_done (js jr : Fin 4) (Ms Md : Memref sig .tc .vmem S8x1024x128 .bf16) (Cs : ∀ c : Dev nD, Buf (Elt F) (Ms.view.loc (c : Thread nD τ)))
    (b : ℕ) (c : Dev nD) :
    iprop(known m ρ K ∗ SendSt js jr Ms Md Cs b c 7)
      ⊢ iprop(OW c (owed c (b - 7)) ∗ bigSep Finset.univ fun r : Fin 7 => cred (tallyAt (cell c js (peer c r)) () N)) := by
  unfold SendSt
  rw [mid_seven]
  iintro ⟨-, HO, H⟩
  isplitl [HO]; · iexact HO
  iexact H

/-- The waits of a round need the credits and the positions; -/
theorem wait_start (j : Fin 4) (b : ℕ) (c : Dev nD) :
    iprop(known m ρ K ∗ OW c (owed c b) ∗ (bigSep Finset.univ fun r : Fin 7 => cred (tallyAt (cell c j (peer c r)) () N))
        ∗ bigSep Finset.univ fun r : Fin 7 => atPos ER (cell c j (peer c r)) 0 ∅ 0)
      ⊢ iprop(known m ρ K ∗ WaitSt m ρ j b c 0) := by
  unfold WaitSt
  rw [mid_zero]
  unfold waitPre
  simp only [bigSep_sep']
  iintro H; iexact H

/-- and give the positions one further, and with the device's own slot the whole buffer. -/
theorem wait_done (j : Fin 4) (b : ℕ) (M : Memref sig .tc .vmem S8x1024x128 .bf16) (c : Dev nD) (f : Buf (Elt F) (M.view.loc (c : Thread nD τ)))
    (h : ∀ i, pay m ρ c j i = slotPts M c i f) :
    iprop((known m ρ K ∗ WaitSt m ρ j b c 7) ∗ slotPts M c c f)
      ⊢ iprop(OW c (owed c b) ∗ (bigSep Finset.univ fun r : Fin 7 => atPos ER (cell c j (peer c r)) 1 ∅ 0) ∗ held M c f) := by
  unfold WaitSt
  rw [mid_seven, held_peers]
  unfold waitPost
  simp only [bigSep_sep', h]
  iintro ⟨⟨-, HO, Ha, Hs⟩, Ho⟩
  isplitl [HO]; · iexact HO
  isplitl [Ha]; · iexact Ha
  isplitl [Ho]; · iexact Ho
  iexact Hs

end Edges

/-! ## The positions -/

omit [FloatOps F] in
theorem bigSep_kinds (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The positions of a kind of transfer cells, at their first round: the own cell's and the others'. -/
abbrev posKind (c : Dev nD) (j : Fin 4) : sProp 𝕄 :=
  iprop(atPos ER (cell c j c) 0 ∅ 0 ∗ bigSep Finset.univ fun r : Fin 7 => atPos ER (cell c j (peer c r)) 0 ∅ 0)

omit [FloatOps F] in
theorem pos_split (c : Dev nD) : (bigSep Finset.univ fun k : Fin 4 × Fin 8 => (atPos ER (cell c k.1 k.2) 0 ∅ 0 : sProp 𝕄))
    = iprop(posKind c 0 ∗ posKind c 1 ∗ posKind c 2 ∗ posKind c 3) := by
  rw [bigSep_univ_prod, bigSep_kinds]
  unfold posKind
  simp only [bigSep_peers c]

section Close
variable (K : Dev nD × CIx → ℕ)

/-- One cell whose rounds are over closes: its counter is at zero. -/
theorem close_cell (ck : Dev nD × CIx) (R : ℕ) (hR : ∀ r, R ≤ r → (sched m ρ).duties (kcell ck) r = ∅) :
    iprop(known m ρ K ∗ atPos ER (kcell ck) R ∅ 0) ⊢ (|={Set.univ}=> semVal (kcell ck) 0 : sProp 𝕄) := by
  iintro ⟨#HK, Ha⟩
  imod (Rounds.cell_close ER (sched m ρ) (Set.mem_univ (K ck)) (fun h => h) (R := R) hR) $$ [Ha] with Hz
  · isplitr; · iapply (known_inv m ρ K ck); iexact HK
    iexact Ha
  imodintro
  iexact Hz

/-- The cells of a kind close: the seven after their round, the own one as it was. -/
theorem close_kind (c : Dev nD) (j : Fin 4) :
    iprop(known m ρ K ∗ atPos ER (cell c j c) 0 ∅ 0 ∗ bigSep Finset.univ fun r : Fin 7 => atPos ER (cell c j (peer c r)) 1 ∅ 0)
      ⊢ (|={Set.univ}=> bigSep Finset.univ fun i : Fin 8 => semVal (cell c j i) 0 : sProp 𝕄) := by
  rw [bigSep_peers c]
  iintro ⟨#HK, Ho, Ha⟩
  imod (close_cell m ρ K (c, .inr (j, c)) 0 (fun r _ => duties_own m ρ c j r)) $$ [Ho] with Hz
  · isplitr; · iexact HK
    iexact Ho
  imod (show iprop(known m ρ K ∗ bigSep Finset.univ fun r : Fin 7 => atPos ER (cell c j (peer c r)) 1 ∅ 0)
      ⊢ (|={Set.univ}=> bigSep Finset.univ fun r : Fin 7 => semVal (cell c j (peer c r)) 0 : sProp 𝕄) from
        ((sep_mono_left (BI.bigSep_of_persistent Finset.univ (known m ρ K))).trans (by
          rw [← bigSep_sep']
          exact bigSep_mono fun r _ => close_cell m ρ K (c, .inr (j, peer c r)) 1 (duties_later m ρ (kcell (c, .inr (j, peer c r)))))).trans (bigSep_fupd _ _)) $$ [Ha] with Hzs
  · isplitr; · iexact HK
    iexact Ha
  imodintro
  isplitl [Hz]; · iexact Hz
  iexact Hzs

/-- Every counter of the device at zero. -/
def zeros (c : Dev nD) : sProp 𝕄 :=
  iprop(semVal (barCell c) 0 ∗ bigSep Finset.univ fun j : Fin 4 => bigSep Finset.univ fun i : Fin 8 => semVal (cell c j i) 0)

/-- The positions of a kind once its round is over. -/
abbrev overKind (c : Dev nD) (j : Fin 4) : sProp 𝕄 :=
  iprop(atPos ER (cell c j c) 0 ∅ 0 ∗ bigSep Finset.univ fun r : Fin 7 => atPos ER (cell c j (peer c r)) 1 ∅ 0)

/-- All of a device's cells close. -/
theorem close_all (c : Dev nD) :
    iprop(known m ρ K ∗ atPos ER (barCell c) 1 ∅ 0 ∗ overKind c 0 ∗ overKind c 1 ∗ overKind c 2 ∗ overKind c 3) ⊢ (|={Set.univ}=> zeros c : sProp 𝕄) := by
  unfold zeros
  rw [bigSep_kinds]
  iintro ⟨#HK, HaB, H0, H1, H2, H3⟩
  imod (close_cell m ρ K (c, .inl ()) 1 (duties_later m ρ (kcell (c, .inl ())))) $$ [HaB] with HzB
  · isplitr; · iexact HK
    iexact HaB
  imod (close_kind m ρ K c 0) $$ [H0] with Hz0
  · isplitr; · iexact HK
    iexact H0
  imod (close_kind m ρ K c 1) $$ [H1] with Hz1
  · isplitr; · iexact HK
    iexact H1
  imod (close_kind m ρ K c 2) $$ [H2] with Hz2
  · isplitr; · iexact HK
    iexact H2
  imod (close_kind m ρ K c 3) $$ [H3] with Hz3
  · isplitr; · iexact HK
    iexact H3
  imodintro
  isplitl [HzB]; · iexact HzB
  isplitl [Hz0]; · iexact Hz0
  isplitl [Hz1]; · iexact Hz1
  isplitl [Hz2]; · iexact Hz2
  iexact Hz3

end Close

/-! ## What a device starts with -/

/-- What stays with device `c` from the launch: its positions and the tokens it pays with. -/
def linear (c : Dev nD) : sProp 𝕄 :=
  iprop(atPos ER (barCell c) 0 ∅ 0 ∗ (bigSep Finset.univ fun k : Fin 4 × Fin 8 => atPos ER (cell c k.1 k.2) 0 ∅ 0) ∗ payToks c)

/-- The credits of what its peers owe it. -/
abbrev launchCreds (c : Dev nD) : sProp 𝕄 :=
  iprop(cred (tallyAt (barCell c) () 7) ∗ (bigSep Finset.univ fun r : Fin 7 => cred (tallyAt (cell c 1 (peer c r)) () N))
    ∗ bigSep Finset.univ fun r : Fin 7 => cred (tallyAt (cell c 3 (peer c r)) () N))

/-- The three exchange buffers, at whatever contents. -/
abbrev scratch (c : Dev nD) : sProp 𝕄 := iprop((∃ f, held (F := F) sM c f) ∗ (∃ f, held (F := F) gM c f) ∗ ∃ f, held (F := F) rM c f)

omit [FloatOps F] in
theorem linear_split (c : Dev nD) : (linear c : sProp 𝕄)
    = iprop(atPos ER (barCell c) 0 ∅ 0 ∗ (posKind c 0 ∗ posKind c 1 ∗ posKind c 2 ∗ posKind c 3)
      ∗ tokBar c ∗ (tokSend 0 c ∗ tokRecv 1 c) ∗ (tokSend 2 c ∗ tokRecv 3 c)) := by
  unfold linear payToks; rw [pos_split]

end Cert.KernelIdeal.Pf
-- ==== Proof.KernelIdeal.Launch.lean ====
/-
What the launch deals the devices: the cells, allocated all at once; the tokens, each carried from the cell it was minted
for to the device that pays with it; and the credits of what a device's peers owe it.
-/
module

public import proofs.«01_k».proof.Proof.KernelIdeal.Phases

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens as minted -/

theorem csem_injective : Function.Injective (csem : CIx → SemLoc sig) := by
  rintro (⟨⟩ | ⟨j, i⟩) (⟨⟩ | ⟨j', i'⟩) h
  · rfl
  · cases h
  · cases h
  · have e : dq j i = dq j' i' := by injection h
    have hj : j = j' := by rw [← qj_dq j i, e, qj_dq]
    have hi : i = i' := by rw [← qi_dq j i, e, qi_dq]
    rw [hj, hi]

theorem kcell_injective : Function.Injective (kcell : Dev nD × CIx → GSem nD τ sig) := by
  rintro ⟨c, k⟩ ⟨c', k'⟩ h
  have hc : c = c' := congrArg (fun g : GSem nD τ sig => g.1.1) h
  have hk : k = k' := csem_injective (congrArg Prod.snd h)
  rw [hc, hk]

/-- Every cell of every device. -/
def allCells : Finset (GSem nD τ sig) := Finset.univ.map ⟨kcell, kcell_injective⟩

/-- What a device and a distance make a token of: one of its barrier's, and one of each kind of transfer cell. -/
abbrev TIx : Type := Unit ⊕ Fin 4

/-- The cell, of device `x.1.1`, with the peer at distance `x.1.2`. -/
abbrev tokCell (x : (Dev nD × Fin 7) × TIx) : CIx := match x.2 with
  | .inl _ => .inl ()
  | .inr j => .inr (j, peer x.1.1 x.1.2)
/-- Its duty is named after the peer. -/
abbrev tokOf (x : (Dev nD × Fin 7) × TIx) : GSem nD τ sig × ℕ × Fin 8 := (kcell (x.1.1, tokCell x), 0, peer x.1.1 x.1.2)

theorem tokOf_injective : Function.Injective tokOf := by
  rintro ⟨⟨c, r⟩, k⟩ ⟨⟨c', r'⟩, k'⟩ h
  have h1 : (c, tokCell ((c, r), k)) = (c', tokCell ((c', r'), k')) := kcell_injective (congrArg Prod.fst h)
  have hc : c = c' := congrArg Prod.fst h1
  subst hc
  have hr : r = r' := peer_inj c (congrArg (fun x : GSem nD τ sig × ℕ × Fin 8 => x.2.2) h)
  subst hr
  have h2 : tokCell ((c, r), k) = tokCell ((c, r), k') := congrArg Prod.snd h1
  rcases k with ⟨⟩ | j <;> rcases k' with ⟨⟩ | j'
  · rfl
  · cases h2
  · cases h2
  · have : (j, peer c r) = (j', peer c r) := by injection h2
    rw [show j = j' from congrArg Prod.fst this]

def allToks : Finset (GSem nD τ sig × ℕ × Fin 8) := Finset.univ.map ⟨tokOf, tokOf_injective⟩

/-- The initial element: the pipeline's, and the cells' and tokens'. -/
def u₀ : UU := (initOf (Pipeline.cells cfgs cellOf_inj) (Pipeline.launchToks cfgs cellOf_inj), initOf allCells allToks)

omit [FloatOps F] in
/-- Over a barrier and the rest, the barrier apart. -/
theorem over_sum {α : Type} [Fintype α] [DecidableEq α] (Φ : Unit ⊕ α → sProp 𝕄) :
    bigSep Finset.univ Φ = iprop(Φ (.inl ()) ∗ bigSep Finset.univ fun k : α => Φ (.inr k)) := by
  rw [BI.bigSep_univ_sum, Finset.univ_unique, BI.bigSep_singleton]; rfl

/-- A device's tokens as minted. -/
def minted (c : Dev nD) : sProp 𝕄 :=
  bigSep Finset.univ fun r : Fin 7 => bigSep Finset.univ fun k : TIx => dutyTok ER (tokOf ((c, r), k)).1 0 (peer c r)

/-- A device's positions, and that each of its cells is at its first round. -/
def places (c : Dev nD) : sProp 𝕄 :=
  bigSep Finset.univ fun k : CIx => iprop(atPos ER (kcell (c, k)) 0 ∅ 0 ∗ reached ER (kcell (c, k)) 0)

/-- What the initial element makes for a device. -/
def G (c : Dev nD) : sProp 𝕄 :=
  iprop((bigSep Finset.univ fun k : CIx => roundState ER (sched m ρ) (kcell (c, k)) 0) ∗ places c ∗ minted c)

omit [FloatOps F] in
theorem over_cells (Φ : GSem nD τ sig → sProp 𝕄) :
    bigSep allCells Φ = bigSep Finset.univ fun c : Dev nD => bigSep Finset.univ fun k : CIx => Φ (kcell (c, k)) := by
  unfold allCells; rw [bigSep_map, bigSep_univ_prod]; rfl

omit [FloatOps F] in
theorem over_toks : bigSep allToks (fun x => (dutyTok ER x.1 x.2.1 x.2.2 : sProp 𝕄)) = bigSep Finset.univ fun c : Dev nD => minted c := by
  unfold allToks; rw [bigSep_map, bigSep_univ_prod, bigSep_univ_prod]; rfl

theorem fund_all : BI.own (ER (initOf allCells allToks)) ⊢ (|==> bigSep Finset.univ (G m ρ) : sProp 𝕄) := by
  iintro H
  imod (Rounds.fund ER (sched m ρ) allCells allToks) $$ H with ⟨Hs, Hr, Ha, Ht⟩
  imodintro
  ihave Hs := (Entails.of_eq (over_cells fun g => roundState ER (sched m ρ) g 0)) $$ Hs
  ihave Hr := (Entails.of_eq (over_cells fun g => reached ER g 0)) $$ Hr
  ihave Ha := (Entails.of_eq (over_cells fun g => atPos ER g 0 ∅ 0)) $$ Ha
  ihave Ht := (Entails.of_eq over_toks) $$ Ht
  unfold G places
  simp only [bigSep_sep']
  isplitl [Hs]; · iexact Hs
  isplitl [Ha Hr]
  · isplitl [Ha]; · iexact Ha
    iexact Hr
  iexact Ht

/-! ## The tokens dealt -/

/-- A device and a distance, seen from the other end. -/
def turn : Dev nD × Fin 7 ≃ Dev nD × Fin 7 where
  toFun x := (peer x.1 x.2, back x.2)
  invFun x := (peer x.1 x.2, back x.2)
  left_inv x := Prod.ext (peer_back x.1 x.2) (back_back x.2)
  right_inv x := Prod.ext (peer_back x.1 x.2) (back_back x.2)

omit [FloatOps F] in
/-- Over all devices and distances, what runs from a device to its peer is what runs from the peer to it. -/
theorem around (Φ : Dev nD → Dev nD → sProp 𝕄) :
    (bigSep Finset.univ fun c : Dev nD => bigSep Finset.univ fun r : Fin 7 => Φ c (peer c r))
      = bigSep Finset.univ fun c : Dev nD => bigSep Finset.univ fun r : Fin 7 => Φ (peer c r) c := by
  rw [← bigSep_univ_prod (fun x : Dev nD × Fin 7 => Φ x.1 (peer x.1 x.2)), bigSep_univ_equiv turn, bigSep_univ_prod]
  refine bigSep_congr fun c _ => bigSep_congr fun r _ => ?_
  exact congrArg (Φ (peer c r)) (peer_back c r)

omit [FloatOps F] in
theorem minted_split (c : Dev nD) : (minted c : sProp 𝕄)
    = iprop((bigSep Finset.univ fun r : Fin 7 => dutyTok ER (barCell c) 0 (peer c r))
      ∗ tokSend 0 c ∗ (bigSep Finset.univ fun r : Fin 7 => dutyTok ER (cell c 1 (peer c r)) 0 (peer c r))
      ∗ tokSend 2 c ∗ bigSep Finset.univ fun r : Fin 7 => dutyTok ER (cell c 3 (peer c r)) 0 (peer c r)) := by
  unfold minted tokSend
  rw [← bigSep_sep', ← bigSep_sep', ← bigSep_sep', ← bigSep_sep']
  refine bigSep_congr fun r _ => ?_
  rw [over_sum, bigSep_kinds]

omit [FloatOps F] in
/-- The tokens minted for the devices' cells are the tokens the devices pay with. -/
theorem deal : (bigSep Finset.univ fun c : Dev nD => (minted c : sProp 𝕄)) ⊢ bigSep Finset.univ fun c : Dev nD => payToks c := by
  simp only [minted_split]
  unfold payToks tokBar tokRecv
  simp only [bigSep_sep']
  rw [around fun a b => (dutyTok ER (barCell a) 0 b : sProp 𝕄), around fun a b => (dutyTok ER (cell a 1 b) 0 b : sProp 𝕄),
    around fun a b => (dutyTok ER (cell a 3 b) 0 b : sProp 𝕄)]
  iintro ⟨H1, H2, H3, H4, H5⟩
  isplitl [H1]; · iexact H1
  isplitl [H2 H3]
  · isplitl [H2]; · iexact H2
    iexact H3
  isplitl [H4]; · iexact H4
  iexact H5

/-! ## The cells allocated -/

omit [FloatOps F] in
theorem own_zero (c : Dev nD) : (Pipeline.ownSems0 (Ix := Unit) (Name := ℕ) (U := UU) (Lvl := ℕ) (Val := Elt F) (τ := τ) osem c : sProp 𝕄)
    = bigSep Finset.univ fun j : Fin 4 => bigSep Finset.univ fun i : Fin 8 => semVal (cell c j i) 0 := by
  unfold Pipeline.ownSems0; rw [bigSep_univ_prod]

omit [FloatOps F] in
theorem bar_zero (c : Dev nD) : (unscopedSems0 c : sProp 𝕄) = semVal (barCell c) 0 := by
  unfold unscopedSems0; rw [bigSep_eq_bigSepL_of_eq [SemLoc.reg barS] (by decide) (by decide)]; rfl

/-- A device's cells, from its counters at zero. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (sched m ρ) κ (kcell (c, k)))) ∗ places c ∗ minted c) := by
  unfold G
  rw [own_zero, bar_zero]
  iintro ⟨Ho, Hb, Hs, Hp, Ht⟩
  imod (show iprop((bigSep Finset.univ fun k : CIx => semVal (kcell (c, k)) 0) ∗ bigSep Finset.univ fun k : CIx => roundState ER (sched m ρ) (kcell (c, k)) 0)
      ⊢ (|={Set.univ}=> bigSep Finset.univ fun k : CIx => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Ho Hb Hs] with HI
  · isplitl [Ho Hb]
    · rw [over_sum, bigSep_univ_prod]
      isplitl [Hb]; · iexact Hb
      iexact Ho
    iexact Hs
  imodintro
  isplitl [HI]; · iexact HI
  isplitl [Hp]; · iexact Hp
  iexact Ht

/-- The cells' invariants and that each has reached its first round. -/
def records (K : Dev nD × CIx → ℕ) : sProp 𝕄 :=
  iprop((bigSep Finset.univ fun ck : Dev nD × CIx => cellInv ER (sched m ρ) (K ck) (kcell ck))
    ∗ bigSep Finset.univ fun ck : Dev nD × CIx => reached ER (kcell ck) 0)

instance records_persistent (K : Dev nD × CIx → ℕ) : BI.Persistent (records m ρ K) := by unfold records; infer_instance

/-- What a device has of the cells and tokens. -/
def G' (c : Dev nD) : sProp 𝕄 := iprop(∃ K, records m ρ K ∗ linear c)

theorem regroup :
    (bigSep Finset.univ fun c : Dev nD =>
        iprop((bigSep Finset.univ fun k : CIx => iprop(∃ κ : ℕ, cellInv ER (sched m ρ) κ (kcell (c, k)))) ∗ places c ∗ minted c) : sProp 𝕄)
      ⊢ bigSep Finset.univ (G' m ρ) := by
  unfold places
  simp only [bigSep_sep']
  rw [← bigSep_univ_prod (fun ck : Dev nD × CIx => iprop(∃ κ : ℕ, cellInv ER (sched m ρ) κ (kcell ck))),
    ← bigSep_univ_prod (fun ck : Dev nD × CIx => (reached ER (kcell ck) 0 : sProp 𝕄))]
  iintro ⟨HI, ⟨Ha, #HR⟩, Ht⟩
  ihave HK := (BI.bigSep_exists_pi Finset.univ (fun (ck : Dev nD × CIx) (κ : ℕ) => (cellInv ER (sched m ρ) κ (kcell ck) : sProp 𝕄))) $$ HI
  icases HK with ⟨%K, #HI⟩
  ihave Ht := (deal (F := F)) $$ Ht
  iapply (show iprop((bigSep Finset.univ fun _ : Dev nD => records m ρ K) ∗ bigSep Finset.univ fun c : Dev nD => (linear c : sProp 𝕄)) ⊢ bigSep Finset.univ (G' m ρ) from by
    rw [← bigSep_sep']
    refine bigSep_mono fun c _ => ?_
    show iprop(records m ρ K ∗ linear c) ⊢ G' m ρ c
    unfold G'
    iintro H
    iexists K
    iexact H)
  isplitr
  · iapply (BI.bigSep_of_persistent Finset.univ (records m ρ K))
    unfold records
    isplitl; · iexact HI
    iexact HR
  · unfold linear
    simp only [bigSep_sep']
    ihave Ha := (Entails.of_eq (show (bigSep Finset.univ fun c : Dev nD => bigSep Finset.univ fun k : CIx => (atPos ER (kcell (c, k)) 0 ∅ 0 : sProp 𝕄))
      = iprop((bigSep Finset.univ fun c : Dev nD => atPos ER (barCell c) 0 ∅ 0)
        ∗ bigSep Finset.univ fun c : Dev nD => bigSep Finset.univ fun k : Fin 4 × Fin 8 => atPos ER (cell c k.1 k.2) 0 ∅ 0) from by
          rw [← bigSep_sep']; exact bigSep_congr fun c _ => over_sum _)) $$ Ha
    icases Ha with ⟨H1, H2⟩
    isplitl [H1]; · iexact H1
    isplitl [H2]; · iexact H2
    iexact Ht

/-- All the devices' cells and tokens, from the counters at zero and the initial element. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The credits -/

/-- What device `d` owes a cell every payment of which is of `a` units: `a` for each of its steps that pays it. -/
theorem owed_count (d : Dev nD) (g : GSem nD τ sig) (a : ℕ) : ∀ n, (∀ k, k < n → g = tgt d k → amt k = a) →
    owed d n g () = a * ((List.range n).countP fun k => decide (g = tgt d k))
  | 0, _ => rfl
  | n + 1, h => by
    unfold owed
    rw [Pi.add_apply, Finsupp.add_apply, owed_count d g a n (fun k hk => h k (Nat.lt_succ_of_lt hk)), tallyAt_apply, List.range_succ,
      List.countP_append, Nat.mul_add]
    congr 1
    by_cases e : g = tgt d n
    · rw [if_pos ⟨e, rfl⟩, h n (Nat.lt_succ_self n) e]; simp [e]
    · rw [if_neg fun h' => e h'.1]; simp [e]

/-- What all devices owe such a cell. -/
theorem credit_count (g : GSem nD τ sig) (a n : ℕ) (h : ∀ d k, k < 21 → g = tgt d k → amt k = a)
    (hn : (∑ d : Dev nD, (List.range 21).countP fun k => decide (g = tgt d k)) = n) :
    tallyOn g (launchCredit (Pipeline.owing fun d => owed d 21) 0 g) = (tallyAt g () (a * n) : CellTallies nD τ sig Unit) := by
  unfold tallyAt
  refine congrArg _ (Finsupp.ext fun u => ?_)
  cases u
  rw [Pipeline.launchCredit_owing, Finsupp.single_eq_same, Finset.sum_congr rfl fun d _ => owed_count d g a 21 (h d), ← Finset.mul_sum, hn]

theorem bar_amt (c d : Dev nD) (k : ℕ) (h : barCell c = tgt d k) : amt k = 1 := by
  unfold tgt at h
  unfold amt
  split at h
  · rename_i h'; exact if_pos h'
  · split at h <;> cases congrArg Prod.snd h

theorem cell_amt (c d : Dev nD) (j : Fin 4) (i : Fin 8) (k : ℕ) (h : cell c j i = tgt d k) : amt k = N := by
  unfold tgt at h
  unfold amt
  split at h
  · cases congrArg Prod.snd h
  · rename_i h'; exact if_neg h'

theorem bar_hits (c : Dev nD) : (∑ d : Dev nD, (List.range 21).countP fun k => decide (barCell c = tgt d k)) = 7 := by
  revert c; decide
theorem first_hits (c : Dev nD) (r : Fin 7) : (∑ d : Dev nD, (List.range 21).countP fun k => decide (cell c 1 (peer c r) = tgt d k)) = 1 := by
  revert c r; decide
theorem second_hits (c : Dev nD) (r : Fin 7) : (∑ d : Dev nD, (List.range 21).countP fun k => decide (cell c 3 (peer c r) = tgt d k)) = 1 := by
  revert c r; decide

omit [FloatOps F] in
/-- Over all semaphores, those of the barrier and of the peers' transfers to a device. -/
theorem some_cells (c : Dev nD) (Φ : SemLoc sig → sProp 𝕄) :
    bigSep Finset.univ Φ ⊢ iprop(Φ (csem (.inl ())) ∗ (bigSep Finset.univ fun r : Fin 7 => Φ (csem (.inr (1, peer c r))))
      ∗ bigSep Finset.univ fun r : Fin 7 => Φ (csem (.inr (3, peer c r)))) := by
  have h1 : bigSep Finset.univ Φ ⊢ bigSep (Finset.univ.map ⟨csem, csem_injective⟩) Φ := bigSep_subset (Finset.subset_univ _)
  rw [bigSep_map, over_sum, bigSep_univ_prod, bigSep_kinds] at h1
  iintro H
  ihave H := h1 $$ H
  icases H with ⟨Hb, -, H1, -, H3⟩
  ihave H1 := (Entails.of_eq (bigSep_peers c fun i => Φ (csem (.inr (1, i))))) $$ H1
  ihave H3 := (Entails.of_eq (bigSep_peers c fun i => Φ (csem (.inr (3, i))))) $$ H3
  icases H1 with ⟨-, H1⟩
  icases H3 with ⟨-, H3⟩
  isplitl [Hb]; · iexact Hb
  isplitl [H1]; · iexact H1
  iexact H3

omit [FloatOps F] in
/-- The launch's credits of a device hold those it waits with. -/
theorem credits (c : Dev nD) : (Pipeline.launchCred (fun d => owed d 21) c : sProp 𝕄) ⊢ launchCreds c := by
  unfold Pipeline.launchCred launchCreds
  refine (some_cells c _).trans (Laws.sep_mono (Entails.of_eq ?_) (Laws.sep_mono (Entails.of_eq ?_) (Entails.of_eq ?_)))
  · exact congrArg cred (credit_count (barCell c) 1 7 (fun d k _ h => bar_amt c d k h) (bar_hits c))
  · exact bigSep_congr fun r _ => congrArg cred ((credit_count (cell c 1 (peer c r)) N 1 (fun d k _ h => cell_amt c d 1 _ k h)
      (first_hits c r)).trans (by rw [Nat.mul_one]))
  · exact bigSep_congr fun r _ => congrArg cred ((credit_count (cell c 3 (peer c r)) N 1 (fun d k _ h => cell_amt c d 3 _ k h)
      (second_hits c r)).trans (by rw [Nat.mul_one]))

end Cert.KernelIdeal.Pf
-- ==== Proof.KernelIdeal.Between.lean ====
/-
What a device holds from one phase of the kernel to the next: each lemma turns what a phase leaves, with what was set
aside, into what the next phase begins with and what is set aside meanwhile.
-/
module

public import proofs.«01_k».proof.Proof.KernelIdeal.Phases

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Where a round's contents land -/

theorem land_first (c d : Dev nD) : ((gM : Memref sig .tc .vmem S8x1024x128 .bf16).access (slotR c)).read (Elt F) (gathC m ρ d)
    = ((sM : Memref sig .tc .vmem S8x1024x128 .bf16).access (slotR d)).read (Elt F) (sendC m ρ c) :=
  (slotOf_gathC m ρ d c).trans (slotOf_sendC m ρ c d).symm

theorem land_second (c d : Dev nD) : ((rM : Memref sig .tc .vmem S8x1024x128 .bf16).access (slotR c)).read (Elt F) (routC m ρ d)
    = ((gM : Memref sig .tc .vmem S8x1024x128 .bf16).access (slotR d)).read (Elt F) (sortC m ρ c) :=
  slotOf_routC m ρ d c

section Between
variable (K : Dev nD × CIx → ℕ) (c : Dev nD)

/-! ## What is set aside -/

/-- The slots of a buffer for the peers. -/
abbrev others (M : Memref sig .tc .vmem S8x1024x128 .bf16) (f : Buf (Elt F) (M.view.loc (c : Thread nD τ))) : sProp 𝕄 :=
  bigSep Finset.univ fun r : Fin 7 => slotPts M c (peer c r) f
/-- The device's own slots on its peers, at whatever contents. -/
abbrev onPeers (M : Memref sig .tc .vmem S8x1024x128 .bf16) : sProp 𝕄 :=
  bigSep Finset.univ fun r : Fin 7 => iprop(∃ f, slotPts (F := F) M (peer c r) c f)
abbrev creds (j : Fin 4) : sProp 𝕄 := bigSep Finset.univ fun r : Fin 7 => cred (tallyAt (cell c j (peer c r)) () N)
abbrev anySlot (M : Memref sig .tc .vmem S8x1024x128 .bf16) : sProp 𝕄 := iprop(∃ f, slotPts (F := F) M c c f)
abbrev anyHeld {s : Shape} (M : Memref sig .tc .vmem s .bf16) : sProp 𝕄 := iprop(∃ f, held (F := F) M c f)

/-- For the first round of transfers; -/
abbrev forFirst : sProp 𝕄 := iprop((tokSend 0 c ∗ tokRecv 1 c) ∗ creds c 1 ∗ posKind c 0 ∗ posKind c 1)
/-- for the second. -/
abbrev forSecond : sProp 𝕄 := iprop((tokSend 2 c ∗ tokRecv 3 c) ∗ creds c 3 ∗ posKind c 2 ∗ posKind c 3)
/-- For the second and what comes after it. -/
abbrev later : sProp 𝕄 := iprop(onPeers (F := F) c rM ∗ anySlot (F := F) c rM ∗ forSecond c ∗ anyHeld (F := F) c oM)
/-- Done with, once the first round is over. -/
abbrev done : sProp 𝕄 :=
  iprop(held xM c (xstg m ρ c) ∗ atPos ER (barCell c) 1 ∅ 0 ∗ held sM c (sendC m ρ c) ∗ overKind c 0 ∗ overKind c 1)

/-- What a device begins the body with, -/
def bodyIn : sProp 𝕄 :=
  iprop(known m ρ K ∗ linear c ∗ launchCreds c ∗ scratch c ∗ OW c (owed c 21) ∗ held xM c (xstg m ρ c) ∗ anyHeld (F := F) c oM)
/-- and what it ends it with. -/
def bodyOut : sProp 𝕄 :=
  iprop(scratch (F := F) c ∗ zeros c ∗ OW c (owed c 0) ∗ held xM c (xstg m ρ c) ∗ held oM c (outC m ρ c))

/-! ## From phase to phase -/

/-- Before the signals. -/
theorem to_signals :
    bodyIn m ρ K c
      ⊢ iprop((known m ρ K ∗ SigSt c 0) ∗ (known m ρ K ∗ (cred (tallyAt (barCell c) () 7) ∗ atPos ER (barCell c) 0 ∅ 0) ∗ forFirst c ∗ anyHeld (F := F) c sM ∗ held xM c (xstg m ρ c) ∗ anySlot (F := F) c gM ∗ anySlot (F := F) c rM ∗ forSecond c ∗ anyHeld (F := F) c oM)) := by
  unfold bodyIn
  iintro ⟨#HK, HL, ⟨HcB, Hc1, Hc3⟩, ⟨Hs, Hg, Hr⟩, HO, Hx, Ho⟩
  ihave HL := (Entails.of_eq (linear_split c)) $$ HL
  icases HL with ⟨HaB, ⟨H0, H1, H2, H3⟩, Htb, Ht1, Ht2⟩
  ihave H := (sigPre_intro c) $$ [Htb Hg Hr]
  · isplitl [Htb]; · iexact Htb
    isplitl [Hg]; · iexact Hg
    iexact Hr
  icases H with ⟨HS, Hg, Hr⟩
  ihave HS := (sig_start m ρ K c) $$ [HO HS]
  · isplitr; · iexact HK
    isplitl [HO]; · iexact HO
    iexact HS
  isplitl [HS]; · iexact HS
  isplitr; · iexact HK
  isplitl [HcB HaB]
  · isplitl [HcB]; · iexact HcB
    iexact HaB
  isplitl [Ht1 Hc1 H0 H1]
  · isplitl [Ht1]; · iexact Ht1
    isplitl [Hc1]; · iexact Hc1
    isplitl [H0]; · iexact H0
    iexact H1
  isplitl [Hs]; · iexact Hs
  isplitl [Hx]; · iexact Hx
  isplitl [Hg]; · iexact Hg
  isplitl [Hr]; · iexact Hr
  isplitl [Ht2 Hc3 H2 H3]
  · isplitl [Ht2]; · iexact Ht2
    isplitl [Hc3]; · iexact Hc3
    isplitl [H2]; · iexact H2
    iexact H3
  iexact Ho

/-- After them, before the wait for the peers' signals. -/
theorem to_barrier :
    iprop((known m ρ K ∗ SigSt c 7) ∗ (known m ρ K ∗ (cred (tallyAt (barCell c) () 7) ∗ atPos ER (barCell c) 0 ∅ 0) ∗ forFirst c ∗ anyHeld (F := F) c sM ∗ held xM c (xstg m ρ c) ∗ anySlot (F := F) c gM ∗ anySlot (F := F) c rM ∗ forSecond c ∗ anyHeld (F := F) c oM))
      ⊢ iprop((known m ρ K ∗ OW c (owed c 14) ∗ cred (tallyAt (barCell c) () 7) ∗ atPos ER (barCell c) 0 ∅ 0) ∗ (known m ρ K ∗ forFirst c ∗ anyHeld (F := F) c sM ∗ held xM c (xstg m ρ c) ∗ anySlot (F := F) c gM ∗ anySlot (F := F) c rM ∗ forSecond c ∗ anyHeld (F := F) c oM)) := by
  iintro ⟨HS, #HK, ⟨HcB, HaB⟩, HR⟩
  ihave HO := (sig_done m ρ K c) $$ HS
  isplitl [HO HcB HaB]
  · isplitr; · iexact HK
    isplitl [HO]; · iexact HO
    isplitl [HcB]; · iexact HcB
    iexact HaB
  isplitr; · iexact HK
  iexact HR

/-- After it, before the fold. -/
theorem to_fold :
    iprop((OW c (owed c 14) ∗ atPos ER (barCell c) 1 ∅ 0 ∗ bigSep Finset.univ fun r : Fin 7 => barPay (F := F) c (peer c r)) ∗ (known m ρ K ∗ forFirst c ∗ anyHeld (F := F) c sM ∗ held xM c (xstg m ρ c) ∗ anySlot (F := F) c gM ∗ anySlot (F := F) c rM ∗ forSecond c ∗ anyHeld (F := F) c oM))
      ⊢ iprop(FoldSt m ρ c 0 ∗ (known m ρ K ∗ OW c (owed c 14) ∗ atPos ER (barCell c) 1 ∅ 0 ∗ onPeers (F := F) c gM ∗ forFirst c ∗ anySlot (F := F) c gM ∗ later c)) := by
  iintro ⟨⟨HO, HaB, Hp⟩, #HK, HF, ⟨%fs, Hs⟩, Hx, Hg, Hr, HL, Ho⟩
  ihave Hp := (Entails.of_eq (barPay_split c)) $$ Hp
  icases Hp with ⟨Hgs, Hrs⟩
  ihave HS := (fold_start m ρ c fs) $$ [Hx Hs]
  · isplitl [Hx]; · iexact Hx
    iexact Hs
  isplitl [HS]; · iexact HS
  isplitr; · iexact HK
  isplitl [HO]; · iexact HO
  isplitl [HaB]; · iexact HaB
  isplitl [Hgs]; · iexact Hgs
  isplitl [HF]; · iexact HF
  isplitl [Hg]; · iexact Hg
  isplitl [Hrs]; · iexact Hrs
  isplitl [Hr]; · iexact Hr
  isplitl [HL]; · iexact HL
  iexact Ho

/-- After the fold, before the device's own slot. -/
theorem to_own_first :
    iprop(FoldSt m ρ c 8 ∗ (known m ρ K ∗ OW c (owed c 14) ∗ atPos ER (barCell c) 1 ∅ 0 ∗ onPeers (F := F) c gM ∗ forFirst c ∗ anySlot (F := F) c gM ∗ later c))
      ⊢ iprop((slotPts sM c c (sendC m ρ c) ∗ anySlot (F := F) c gM) ∗ (known m ρ K ∗ held xM c (xstg m ρ c) ∗ others c sM (sendC m ρ c) ∗ OW c (owed c 14) ∗ atPos ER (barCell c) 1 ∅ 0 ∗ onPeers (F := F) c gM ∗ forFirst c ∗ later c)) := by
  iintro ⟨HS, #HK, HO, HaB, Hgs, HF, Hg, HL⟩
  ihave HS := (fold_done m ρ c) $$ HS
  icases HS with ⟨Hx, Hs⟩
  ihave Hs := (Entails.of_eq (held_peers sM c (sendC m ρ c))) $$ Hs
  icases Hs with ⟨Hs, Hss⟩
  isplitl [Hs Hg]
  · isplitl [Hs]; · iexact Hs
    iexact Hg
  isplitr; · iexact HK
  isplitl [Hx]; · iexact Hx
  isplitl [Hss]; · iexact Hss
  isplitl [HO]; · iexact HO
  isplitl [HaB]; · iexact HaB
  isplitl [Hgs]; · iexact Hgs
  isplitl [HF]; · iexact HF
  iexact HL

/-- After it, before the first round's transfers. -/
theorem to_first :
    iprop((slotPts sM c c (sendC m ρ c) ∗ slotPts gM c c (gathC m ρ c)) ∗ (known m ρ K ∗ held xM c (xstg m ρ c) ∗ others c sM (sendC m ρ c) ∗ OW c (owed c 14) ∗ atPos ER (barCell c) 1 ∅ 0 ∗ onPeers (F := F) c gM ∗ forFirst c ∗ later c))
      ⊢ iprop((known m ρ K ∗ SendSt 0 1 sM gM (sendC m ρ) 14 c 0) ∗ (known m ρ K ∗ held xM c (xstg m ρ c) ∗ atPos ER (barCell c) 1 ∅ 0 ∗ slotPts sM c c (sendC m ρ c) ∗ slotPts gM c c (gathC m ρ c) ∗ creds c 1 ∗ posKind c 0 ∗ posKind c 1 ∗ later c)) := by
  iintro ⟨⟨Hs, Hg⟩, #HK, Hx, Hss, HO, HaB, Hgs, ⟨Ht, Hc1, H0, H1⟩, HL⟩
  ihave HT := (send_start m ρ K 0 1 sM gM (sendC m ρ) 14 c) $$ [HO Ht Hss Hgs]
  · isplitr; · iexact HK
    isplitl [HO]; · iexact HO
    isplitl [Ht]; · iexact Ht
    isplitl [Hss]; · iexact Hss
    iexact Hgs
  isplitl [HT]; · iexact HT
  isplitr; · iexact HK
  isplitl [Hx]; · iexact Hx
  isplitl [HaB]; · iexact HaB
  isplitl [Hs]; · iexact Hs
  isplitl [Hg]; · iexact Hg
  isplitl [Hc1]; · iexact Hc1
  isplitl [H0]; · iexact H0
  isplitl [H1]; · iexact H1
  iexact HL

/-- After them, before the waits for the first round's arrivals. -/
theorem to_arrivals :
    iprop((known m ρ K ∗ SendSt 0 1 sM gM (sendC m ρ) 14 c 7) ∗ (known m ρ K ∗ held xM c (xstg m ρ c) ∗ atPos ER (barCell c) 1 ∅ 0 ∗ slotPts sM c c (sendC m ρ c) ∗ slotPts gM c c (gathC m ρ c) ∗ creds c 1 ∗ posKind c 0 ∗ posKind c 1 ∗ later c))
      ⊢ iprop((known m ρ K ∗ WaitSt m ρ 1 7 c 0) ∗ (known m ρ K ∗ held xM c (xstg m ρ c) ∗ atPos ER (barCell c) 1 ∅ 0 ∗ slotPts sM c c (sendC m ρ c) ∗ slotPts gM c c (gathC m ρ c) ∗ creds c 0 ∗ posKind c 0 ∗ atPos ER (cell c 1 c) 0 ∅ 0 ∗ later c)) := by
  iintro ⟨HT, #HK, Hx, HaB, Hs, Hg, Hc1, H0, ⟨Ho1, Ha1⟩, HL⟩
  ihave HT := (send_done m ρ K 0 1 sM gM (sendC m ρ) 14 c) $$ HT
  icases HT with ⟨HO, Hc0⟩
  ihave HW := (wait_start m ρ K 1 7 c) $$ [HO Hc1 Ha1]
  · isplitr; · iexact HK
    isplitl [HO]; · iexact HO
    isplitl [Hc1]; · iexact Hc1
    iexact Ha1
  isplitl [HW]; · iexact HW
  isplitr; · iexact HK
  isplitl [Hx]; · iexact Hx
  isplitl [HaB]; · iexact HaB
  isplitl [Hs]; · iexact Hs
  isplitl [Hg]; · iexact Hg
  isplitl [Hc0]; · iexact Hc0
  isplitl [H0]; · iexact H0
  isplitl [Ho1]; · iexact Ho1
  iexact HL

/-- After them, before the waits for its departures. -/
theorem to_departures :
    iprop((known m ρ K ∗ WaitSt m ρ 1 7 c 7) ∗ (known m ρ K ∗ held xM c (xstg m ρ c) ∗ atPos ER (barCell c) 1 ∅ 0 ∗ slotPts sM c c (sendC m ρ c) ∗ slotPts gM c c (gathC m ρ c) ∗ creds c 0 ∗ posKind c 0 ∗ atPos ER (cell c 1 c) 0 ∅ 0 ∗ later c))
      ⊢ iprop((known m ρ K ∗ WaitSt m ρ 0 7 c 0) ∗ (known m ρ K ∗ held xM c (xstg m ρ c) ∗ atPos ER (barCell c) 1 ∅ 0 ∗ slotPts sM c c (sendC m ρ c) ∗ held gM c (gathC m ρ c) ∗ overKind c 1 ∗ atPos ER (cell c 0 c) 0 ∅ 0 ∗ later c)) := by
  iintro ⟨HW, #HK, Hx, HaB, Hs, Hg, Hc0, ⟨Ho0, Ha0⟩, Ho1, HL⟩
  ihave HW := (wait_done m ρ K 1 7 gM c (gathC m ρ c) (fun _ => rfl)) $$ [HW Hg]
  · isplitl [HW]; · iexact HW
    iexact Hg
  icases HW with ⟨HO, Ha1, Hg⟩
  ihave HW := (wait_start m ρ K 0 7 c) $$ [HO Hc0 Ha0]
  · isplitr; · iexact HK
    isplitl [HO]; · iexact HO
    isplitl [Hc0]; · iexact Hc0
    iexact Ha0
  isplitl [HW]; · iexact HW
  isplitr; · iexact HK
  isplitl [Hx]; · iexact Hx
  isplitl [HaB]; · iexact HaB
  isplitl [Hs]; · iexact Hs
  isplitl [Hg]; · iexact Hg
  isplitl [Ho1 Ha1]
  · isplitl [Ho1]; · iexact Ho1
    iexact Ha1
  isplitl [Ho0]; · iexact Ho0
  iexact HL

/-- After them, before the sort. -/
theorem to_sort :
    iprop((known m ρ K ∗ WaitSt m ρ 0 7 c 7) ∗ (known m ρ K ∗ held xM c (xstg m ρ c) ∗ atPos ER (barCell c) 1 ∅ 0 ∗ slotPts sM c c (sendC m ρ c) ∗ held gM c (gathC m ρ c) ∗ overKind c 1 ∗ atPos ER (cell c 0 c) 0 ∅ 0 ∗ later c))
      ⊢ iprop(held gM c (gathC m ρ c) ∗ (known m ρ K ∗ OW c (owed c 7) ∗ done m ρ c ∗ later c)) := by
  iintro ⟨HW, #HK, Hx, HaB, Hs, Hg, ⟨Ho1, Ha1⟩, Ho0, HL⟩
  ihave HW := (wait_done m ρ K 0 7 sM c (sendC m ρ c) (fun _ => rfl)) $$ [HW Hs]
  · isplitl [HW]; · iexact HW
    iexact Hs
  icases HW with ⟨HO, Ha0, Hs⟩
  isplitl [Hg]; · iexact Hg
  isplitr; · iexact HK
  isplitl [HO]; · iexact HO
  isplitl [Hx HaB Hs Ho0 Ha0 Ho1 Ha1]
  · isplitl [Hx]; · iexact Hx
    isplitl [HaB]; · iexact HaB
    isplitl [Hs]; · iexact Hs
    isplitl [Ho0 Ha0]
    · isplitl [Ho0]; · iexact Ho0
      iexact Ha0
    isplitl [Ho1]; · iexact Ho1
    iexact Ha1
  iexact HL

/-- After the sort, before the device's own slot. -/
theorem to_own_second :
    iprop(held gM c (sortC m ρ c) ∗ (known m ρ K ∗ OW c (owed c 7) ∗ done m ρ c ∗ later c))
      ⊢ iprop((slotPts gM c c (sortC m ρ c) ∗ anySlot (F := F) c rM) ∗ (known m ρ K ∗ OW c (owed c 7) ∗ others c gM (sortC m ρ c) ∗ onPeers (F := F) c rM ∗ done m ρ c ∗ forSecond c ∗ anyHeld (F := F) c oM)) := by
  iintro ⟨Hg, #HK, HO, HD, Hrs, Hr, HS, Ho⟩
  ihave Hg := (Entails.of_eq (held_peers gM c (sortC m ρ c))) $$ Hg
  icases Hg with ⟨Hg, Hgs⟩
  isplitl [Hg Hr]
  · isplitl [Hg]; · iexact Hg
    iexact Hr
  isplitr; · iexact HK
  isplitl [HO]; · iexact HO
  isplitl [Hgs]; · iexact Hgs
  isplitl [Hrs]; · iexact Hrs
  isplitl [HD]; · iexact HD
  isplitl [HS]; · iexact HS
  iexact Ho

/-- After it, before the second round's transfers. -/
theorem to_second :
    iprop((slotPts gM c c (sortC m ρ c) ∗ slotPts rM c c (routC m ρ c)) ∗ (known m ρ K ∗ OW c (owed c 7) ∗ others c gM (sortC m ρ c) ∗ onPeers (F := F) c rM ∗ done m ρ c ∗ forSecond c ∗ anyHeld (F := F) c oM))
      ⊢ iprop((known m ρ K ∗ SendSt 2 3 gM rM (sortC m ρ) 7 c 0) ∗ (known m ρ K ∗ slotPts gM c c (sortC m ρ c) ∗ slotPts rM c c (routC m ρ c) ∗ done m ρ c ∗ creds c 3 ∗ posKind c 2 ∗ posKind c 3 ∗ anyHeld (F := F) c oM)) := by
  iintro ⟨⟨Hg, Hr⟩, #HK, HO, Hgs, Hrs, HD, ⟨Ht, Hc3, H2, H3⟩, Ho⟩
  ihave HT := (send_start m ρ K 2 3 gM rM (sortC m ρ) 7 c) $$ [HO Ht Hgs Hrs]
  · isplitr; · iexact HK
    isplitl [HO]; · iexact HO
    isplitl [Ht]; · iexact Ht
    isplitl [Hgs]; · iexact Hgs
    iexact Hrs
  isplitl [HT]; · iexact HT
  isplitr; · iexact HK
  isplitl [Hg]; · iexact Hg
  isplitl [Hr]; · iexact Hr
  isplitl [HD]; · iexact HD
  isplitl [Hc3]; · iexact Hc3
  isplitl [H2]; · iexact H2
  isplitl [H3]; · iexact H3
  iexact Ho

/-- After them, before the waits for the second round's arrivals. -/
theorem to_arrivals_second :
    iprop((known m ρ K ∗ SendSt 2 3 gM rM (sortC m ρ) 7 c 7) ∗ (known m ρ K ∗ slotPts gM c c (sortC m ρ c) ∗ slotPts rM c c (routC m ρ c) ∗ done m ρ c ∗ creds c 3 ∗ posKind c 2 ∗ posKind c 3 ∗ anyHeld (F := F) c oM))
      ⊢ iprop((known m ρ K ∗ WaitSt m ρ 3 0 c 0) ∗ (known m ρ K ∗ slotPts gM c c (sortC m ρ c) ∗ slotPts rM c c (routC m ρ c) ∗ done m ρ c ∗ creds c 2 ∗ posKind c 2 ∗ atPos ER (cell c 3 c) 0 ∅ 0 ∗ anyHeld (F := F) c oM)) := by
  iintro ⟨HT, #HK, Hg, Hr, HD, Hc3, H2, ⟨Ho3, Ha3⟩, Ho⟩
  ihave HT := (send_done m ρ K 2 3 gM rM (sortC m ρ) 7 c) $$ HT
  icases HT with ⟨HO, Hc2⟩
  ihave HW := (wait_start m ρ K 3 0 c) $$ [HO Hc3 Ha3]
  · isplitr; · iexact HK
    isplitl [HO]; · iexact HO
    isplitl [Hc3]; · iexact Hc3
    iexact Ha3
  isplitl [HW]; · iexact HW
  isplitr; · iexact HK
  isplitl [Hg]; · iexact Hg
  isplitl [Hr]; · iexact Hr
  isplitl [HD]; · iexact HD
  isplitl [Hc2]; · iexact Hc2
  isplitl [H2]; · iexact H2
  isplitl [Ho3]; · iexact Ho3
  iexact Ho

/-- After them, before the unfolding. -/
theorem to_unfold :
    iprop((known m ρ K ∗ WaitSt m ρ 3 0 c 7) ∗ (known m ρ K ∗ slotPts gM c c (sortC m ρ c) ∗ slotPts rM c c (routC m ρ c) ∗ done m ρ c ∗ creds c 2 ∗ posKind c 2 ∗ atPos ER (cell c 3 c) 0 ∅ 0 ∗ anyHeld (F := F) c oM))
      ⊢ iprop(UnfSt m ρ c 0 ∗ (known m ρ K ∗ OW c (owed c 0) ∗ slotPts gM c c (sortC m ρ c) ∗ done m ρ c ∗ creds c 2 ∗ overKind c 3 ∗ posKind c 2)) := by
  iintro ⟨HW, #HK, Hg, Hr, HD, Hc2, H2, Ho3, ⟨%fo, Ho⟩⟩
  ihave HW := (wait_done m ρ K 3 0 rM c (routC m ρ c) (fun _ => rfl)) $$ [HW Hr]
  · isplitl [HW]; · iexact HW
    iexact Hr
  icases HW with ⟨HO, Ha3, Hr⟩
  ihave HU := (unf_start m ρ c fo) $$ [Hr Ho]
  · isplitl [Hr]; · iexact Hr
    iexact Ho
  isplitl [HU]; · iexact HU
  isplitr; · iexact HK
  isplitl [HO]; · iexact HO
  isplitl [Hg]; · iexact Hg
  isplitl [HD]; · iexact HD
  isplitl [Hc2]; · iexact Hc2
  isplitl [Ho3 Ha3]
  · isplitl [Ho3]; · iexact Ho3
    iexact Ha3
  iexact H2

/-- After it, before the waits for the second round's departures. -/
theorem to_departures_second :
    iprop(UnfSt m ρ c 8 ∗ (known m ρ K ∗ OW c (owed c 0) ∗ slotPts gM c c (sortC m ρ c) ∗ done m ρ c ∗ creds c 2 ∗ overKind c 3 ∗ posKind c 2))
      ⊢ iprop((known m ρ K ∗ WaitSt m ρ 2 0 c 0) ∗ (known m ρ K ∗ slotPts gM c c (sortC m ρ c) ∗ done m ρ c ∗ overKind c 3 ∗ atPos ER (cell c 2 c) 0 ∅ 0 ∗ held rM c (routC m ρ c) ∗ held oM c (outC m ρ c))) := by
  iintro ⟨HU, #HK, HO, Hg, HD, Hc2, H3, ⟨Ho2, Ha2⟩⟩
  ihave HU := (unf_done m ρ c) $$ HU
  icases HU with ⟨Hr, Ho⟩
  ihave HW := (wait_start m ρ K 2 0 c) $$ [HO Hc2 Ha2]
  · isplitr; · iexact HK
    isplitl [HO]; · iexact HO
    isplitl [Hc2]; · iexact Hc2
    iexact Ha2
  isplitl [HW]; · iexact HW
  isplitr; · iexact HK
  isplitl [Hg]; · iexact Hg
  isplitl [HD]; · iexact HD
  isplitl [H3]; · iexact H3
  isplitl [Ho2]; · iexact Ho2
  isplitl [Hr]; · iexact Hr
  iexact Ho

/-- After them every cell closes. -/
theorem to_end :
    iprop((known m ρ K ∗ WaitSt m ρ 2 0 c 7) ∗ (known m ρ K ∗ slotPts gM c c (sortC m ρ c) ∗ done m ρ c ∗ overKind c 3 ∗ atPos ER (cell c 2 c) 0 ∅ 0 ∗ held rM c (routC m ρ c) ∗ held oM c (outC m ρ c)))
      ⊢ (|={Set.univ}=> bodyOut m ρ c : sProp 𝕄) := by
  iintro ⟨HW, #HK, Hg, ⟨Hx, HaB, Hs, H0, H1⟩, H3, Ho2, Hr, Ho⟩
  ihave HW := (wait_done m ρ K 2 0 gM c (sortC m ρ c) (fun _ => rfl)) $$ [HW Hg]
  · isplitl [HW]; · iexact HW
    iexact Hg
  icases HW with ⟨HO, Ha2, Hg⟩
  imod (close_all m ρ K c) $$ [HaB H0 H1 Ho2 Ha2 H3] with HZ
  · isplitr; · iexact HK
    isplitl [HaB]; · iexact HaB
    isplitl [H0]; · iexact H0
    isplitl [H1]; · iexact H1
    isplitl [Ho2 Ha2]
    · isplitl [Ho2]; · iexact Ho2
      iexact Ha2
    iexact H3
  imodintro
  unfold bodyOut
  isplitl [Hs Hg Hr]
  · isplitl [Hs]; · iexists _; iexact Hs
    isplitl [Hg]; · iexists _; iexact Hg
    iexists _; iexact Hr
  isplitl [HZ]; · iexact HZ
  isplitl [HO]; · iexact HO
  isplitl [Hx]; · iexact Hx
  iexact Ho

end Between

end Cert.KernelIdeal.Pf
-- ==== Proof.KernelIdeal.Body.lean ====
/-
The kernel's body on one device, executed effect by effect: from the staged argument and the tokens a device starts with
to the result, every cell closed.
-/
module

public import proofs.«01_k».proof.Proof.KernelIdeal.Between

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A step, with what is set aside -/

omit [FloatOps F] in
/-- A step takes what it needs to what it leaves, whatever else is held. -/
theorem step {A B R W V : sProp 𝕄} (h : A ⊢ iprop((B -∗ W) -∗ V)) (hk : iprop(B ∗ R) ⊢ W) : iprop(A ∗ R) ⊢ V := by
  iintro ⟨HA, HR⟩
  iapply h $$ HA
  iintro HB
  iapply hk
  isplitl [HB]; · iexact HB
  iexact HR

/-- The device a printed address names, at distance `v`, is the peer at that distance. -/
theorem at_peer {n : ℕ} {h : n < 8} (c : Dev nD) (r : Fin 7) (v : ℕ) (hv : v = r.val + 1) (hn : n = (c.val + v) % 8) :
    (⟨n, h⟩ : Dev nD) = peer c r := by
  subst hv; exact Fin.ext hn

/-- The slot and the semaphore a device addresses for its `r`-th peer, at the printed word `w` for `r`. -/
theorem slot_word (M : Memref sig .tc .vmem S8x1024x128 .bf16) (c : Dev nD) (r : Fin 7) (w : BitVec 32) (hw : BitVec.ofNat 32 (1 + r.val) = w)
    {i : ∀ a, k0_off5 c w a + S1x1024x128.size a ≤ S8x1024x128.size a} :
    (M.slice (Rect.unit (s := S8x1024x128) (k0_off5 c w) S1x1024x128.size i) (fun _ => rfl)).squeeze S1024x128 squeezes_S1x1024x128_S1024x128
      = slotM M (peer c r) := by
  subst hw; exact slot_off5 M c r
theorem sem_word (j : Fin 4) (c : Dev nD) (r : Fin 7) (w : BitVec 32) (hw : BitVec.ofNat 32 (1 + r.val) = w)
    {i : ∀ a, k0_off2 c w a + S1.size a ≤ S8.size a} :
    (((semA j).slice (Rect.unit (s := S8) (k0_off2 c w) S1.size i)).squeeze S_ squeezes_S1_S_).sem = dq j (peer c r) := by
  subst hw; exact sem_off2 j c r

/-- Any slot of an exchange buffer counts the same credit. -/
theorem credit_at (M : Memref sig .tc .vmem S8x1024x128 .bf16) (o : Fin 3 → ℕ) {i : ∀ a, o a + S1x1024x128.size a ≤ S8x1024x128.size a} :
    ((M.slice (Rect.unit (s := S8x1024x128) o S1x1024x128.size i) (fun _ => rfl)).squeeze S1024x128 squeezes_S1x1024x128_S1024x128).view.dmaCredit = N := rfl

/-! ## The body -/

set_option maxHeartbeats 8000000 in
set_option maxRecDepth 16000 in
/-- On every device the body, from what the launch gave it, ends with its result written and every counter at zero. -/
theorem sound_body (K : Dev nD × CIx → ℕ) (c : Dev nD) :
    bodyIn m ρ K c
      ⊢ WP c (cc0_body xM (Memref.isWhole_whole _) oM (Memref.isWhole_whole _) sM (Memref.isWhole_whole _) gM (Memref.isWhole_whole _)
          rM (Memref.isWhole_whole _) cc0_scratch3 cc0_scratch4 cc0_scratch5 cc0_scratch6) (fun _ => bodyOut m ρ c) := by
  simp only [cc0_body_eq_skeleton, cc0_body_skel, k0_part18_eq_skeleton, k0_part18_skel, Prog.bind_assoc, Prog.lift, Prog.bind_op, Prog.bind_ret, Prog.pure_eq_ret]
  simp only [k0_part1_eq_skeleton, k0_part1_skel, semSignalWord, Prog.lift, Prog.bind_op, Prog.bind_ret, Prog.pure_eq_ret, wp_deviceId]
  refine (to_signals m ρ K c).trans ?_
  refine step (sig_step m ρ K c _ 0 0 1 rfl rfl (at_peer c 0 1 rfl (k0_dev1_eq c)) rfl) ?_
  refine step (sig_step m ρ K c _ 1 1 2 rfl rfl (at_peer c 1 2 rfl (k0_dev2_eq c)) rfl) ?_
  refine step (sig_step m ρ K c _ 2 2 3 rfl rfl (at_peer c 2 3 rfl (k0_dev3_eq c)) rfl) ?_
  refine step (sig_step m ρ K c _ 3 3 4 rfl rfl (at_peer c 3 4 rfl (k0_dev4_eq c)) rfl) ?_
  refine step (sig_step m ρ K c _ 4 4 5 rfl rfl (at_peer c 4 5 rfl (k0_dev5_eq c)) rfl) ?_
  simp only [k0_part2_eq_skeleton, k0_part2_skel, semSignalWord, semWaitWord, Prog.lift, Prog.bind_op, Prog.bind_ret, Prog.pure_eq_ret]
  refine step (sig_step m ρ K c _ 5 5 6 rfl rfl (at_peer c 5 6 rfl (k0_dev6_eq c)) rfl) ?_
  refine step (sig_step m ρ K c _ 6 6 7 rfl rfl (at_peer c 6 7 rfl (k0_dev7_eq c)) rfl) ?_
  refine (to_barrier m ρ K c).trans ?_
  refine step (bar_wait m ρ K c rfl) ?_
  refine (to_fold m ρ K c).trans ?_
  refine step (fold_step m ρ c 0 0 1 rfl rfl _ rfl _ rfl _ rfl) ?_
  refine step (fold_step m ρ c 1 1 2 rfl rfl _ rfl _ rfl _ rfl) ?_
  simp only [k0_part3_eq_skeleton, k0_part3_skel, semSignalWord, semWaitWord, Prog.lift, Prog.bind_op, Prog.bind_ret, Prog.pure_eq_ret]
  refine step (fold_step m ρ c 2 2 3 rfl rfl _ rfl _ rfl _ rfl) ?_
  refine step (fold_step m ρ c 3 3 4 rfl rfl _ rfl _ rfl _ rfl) ?_
  refine step (fold_step m ρ c 4 4 5 rfl rfl _ rfl _ rfl _ rfl) ?_
  refine step (fold_step m ρ c 5 5 6 rfl rfl _ rfl _ rfl _ rfl) ?_
  refine step (fold_step m ρ c 6 6 7 rfl rfl _ rfl _ rfl _ rfl) ?_
  simp only [k0_part4_eq_skeleton, k0_part4_skel, semSignalWord, semWaitWord, Prog.lift, Prog.bind_op, Prog.bind_ret, Prog.pure_eq_ret]
  refine step (fold_step m ρ c 7 7 8 rfl rfl _ rfl _ rfl _ rfl) ?_
  refine (to_own_first m ρ K c).trans ?_
  refine step (own_copy sM gM c (sendC m ρ c) (gathC m ρ c) (land_first m ρ c c) _ (k0_off1_eq c) _ pay10_eq) ?_
  refine (to_first m ρ K c).trans ?_
  have first := send_step m ρ K 0 1 sM gM (sendC m ρ) 14 (gathC m ρ) (fun _ _ => rfl) (fun _ _ => rfl) (land_first m ρ) owed_first c
  refine step (first _ 0 0 1 rfl rfl (at_peer c 0 1 rfl (k0_dev8_eq c)) _ _ (slot_word sM c 0 1#32 rfl) (slot_off4 gM c) _ _ (sem_word 0 c 0 1#32 rfl) (sem_off3 1 c)) ?_
  simp only [k0_part5_eq_skeleton, k0_part5_skel, semSignalWord, semWaitWord, Prog.lift, Prog.bind_op, Prog.bind_ret, Prog.pure_eq_ret]
  refine step (first _ 1 1 2 rfl rfl (at_peer c 1 2 rfl (k0_dev9_eq c)) _ _ (slot_word sM c 1 2#32 rfl) (slot_off4 gM c) _ _ (sem_word 0 c 1 2#32 rfl) (sem_off3 1 c)) ?_
  refine step (first _ 2 2 3 rfl rfl (at_peer c 2 3 rfl (k0_dev10_eq c)) _ _ (slot_word sM c 2 3#32 rfl) (slot_off4 gM c) _ _ (sem_word 0 c 2 3#32 rfl) (sem_off3 1 c)) ?_
  refine step (first _ 3 3 4 rfl rfl (at_peer c 3 4 rfl (k0_dev11_eq c)) _ _ (slot_word sM c 3 4#32 rfl) (slot_off4 gM c) _ _ (sem_word 0 c 3 4#32 rfl) (sem_off3 1 c)) ?_
  simp only [k0_part6_eq_skeleton, k0_part6_skel, semSignalWord, semWaitWord, Prog.lift, Prog.bind_op, Prog.bind_ret, Prog.pure_eq_ret]
  refine step (first _ 4 4 5 rfl rfl (at_peer c 4 5 rfl (k0_dev12_eq c)) _ _ (slot_word sM c 4 5#32 rfl) (slot_off4 gM c) _ _ (sem_word 0 c 4 5#32 rfl) (sem_off3 1 c)) ?_
  refine step (first _ 5 5 6 rfl rfl (at_peer c 5 6 rfl (k0_dev13_eq c)) _ _ (slot_word sM c 5 6#32 rfl) (slot_off4 gM c) _ _ (sem_word 0 c 5 6#32 rfl) (sem_off3 1 c)) ?_
  refine step (first _ 6 6 7 rfl rfl (at_peer c 6 7 rfl (k0_dev14_eq c)) _ _ (slot_word sM c 6 7#32 rfl) (slot_off4 gM c) _ _ (sem_word 0 c 6 7#32 rfl) (sem_off3 1 c)) ?_
  refine (to_arrivals m ρ K c).trans ?_
  simp only [k0_part7_eq_skeleton, k0_part7_skel, semSignalWord, semWaitWord, Prog.lift, Prog.bind_op, Prog.bind_ret, Prog.pure_eq_ret]
  refine step (wait_step m ρ K 1 7 c (fun i => mayWait_cell7 c 1 i (by decide)) 0 0 1 rfl rfl _ (sem_word 1 c 0 1#32 rfl) _ _ (credit_at _ _)) ?_
  refine step (wait_step m ρ K 1 7 c (fun i => mayWait_cell7 c 1 i (by decide)) 1 1 2 rfl rfl _ (sem_word 1 c 1 2#32 rfl) _ _ (credit_at _ _)) ?_
  refine step (wait_step m ρ K 1 7 c (fun i => mayWait_cell7 c 1 i (by decide)) 2 2 3 rfl rfl _ (sem_word 1 c 2 3#32 rfl) _ _ (credit_at _ _)) ?_
  simp only [k0_part8_eq_skeleton, k0_part8_skel, semSignalWord, semWaitWord, Prog.lift, Prog.bind_op, Prog.bind_ret, Prog.pure_eq_ret]
  refine step (wait_step m ρ K 1 7 c (fun i => mayWait_cell7 c 1 i (by decide)) 3 3 4 rfl rfl _ (sem_word 1 c 3 4#32 rfl) _ _ (credit_at _ _)) ?_
  refine step (wait_step m ρ K 1 7 c (fun i => mayWait_cell7 c 1 i (by decide)) 4 4 5 rfl rfl _ (sem_word 1 c 4 5#32 rfl) _ _ (credit_at _ _)) ?_
  refine step (wait_step m ρ K 1 7 c (fun i => mayWait_cell7 c 1 i (by decide)) 5 5 6 rfl rfl _ (sem_word 1 c 5 6#32 rfl) _ _ (credit_at _ _)) ?_
  simp only [k0_part9_eq_skeleton, k0_part9_skel, semSignalWord, semWaitWord, Prog.lift, Prog.bind_op, Prog.bind_ret, Prog.pure_eq_ret]
  refine step (wait_step m ρ K 1 7 c (fun i => mayWait_cell7 c 1 i (by decide)) 6 6 7 rfl rfl _ (sem_word 1 c 6 7#32 rfl) _ _ (credit_at _ _)) ?_
  refine (to_departures m ρ K c).trans ?_
  refine step (wait_step m ρ K 0 7 c (fun i => mayWait_cell7 c 0 i (by decide)) 0 0 1 rfl rfl _ (sem_word 0 c 0 1#32 rfl) _ _ (credit_at _ _)) ?_
  refine step (wait_step m ρ K 0 7 c (fun i => mayWait_cell7 c 0 i (by decide)) 1 1 2 rfl rfl _ (sem_word 0 c 1 2#32 rfl) _ _ (credit_at _ _)) ?_
  refine step (wait_step m ρ K 0 7 c (fun i => mayWait_cell7 c 0 i (by decide)) 2 2 3 rfl rfl _ (sem_word 0 c 2 3#32 rfl) _ _ (credit_at _ _)) ?_
  refine step (wait_step m ρ K 0 7 c (fun i => mayWait_cell7 c 0 i (by decide)) 3 3 4 rfl rfl _ (sem_word 0 c 3 4#32 rfl) _ _ (credit_at _ _)) ?_
  simp only [k0_part10_eq_skeleton, k0_part10_skel, semSignalWord, semWaitWord, sort_loop, Prog.lift, Prog.bind_op, Prog.bind_ret, Prog.pure_eq_ret]
  refine step (wait_step m ρ K 0 7 c (fun i => mayWait_cell7 c 0 i (by decide)) 4 4 5 rfl rfl _ (sem_word 0 c 4 5#32 rfl) _ _ (credit_at _ _)) ?_
  refine step (wait_step m ρ K 0 7 c (fun i => mayWait_cell7 c 0 i (by decide)) 5 5 6 rfl rfl _ (sem_word 0 c 5 6#32 rfl) _ _ (credit_at _ _)) ?_
  refine step (wait_step m ρ K 0 7 c (fun i => mayWait_cell7 c 0 i (by decide)) 6 6 7 rfl rfl _ (sem_word 0 c 6 7#32 rfl) _ _ (credit_at _ _)) ?_
  refine (to_sort m ρ K c).trans ?_
  simp only [k0_part11_eq_skeleton, k0_part11_skel, semSignalWord, semWaitWord, Prog.lift, Prog.bind_op, Prog.bind_ret, Prog.pure_eq_ret]
  refine step (sort_step m ρ c _ zero3 _ (fun _ => rfl)) ?_
  refine (to_own_second m ρ K c).trans ?_
  refine step (own_copy gM rM c (sortC m ρ c) (routC m ρ c) (land_second m ρ c c) _ (k0_off1_eq c) _ pay25_eq) ?_
  refine (to_second m ρ K c).trans ?_
  have second := send_step m ρ K 2 3 gM rM (sortC m ρ) 7 (routC m ρ) (fun _ _ => rfl) (fun _ _ => rfl) (land_second m ρ) owed_second c
  refine step (second _ 0 0 1 rfl rfl (at_peer c 0 1 rfl (k0_dev15_eq c)) _ _ (slot_word gM c 0 1#32 rfl) (slot_off4 rM c) _ _ (sem_word 2 c 0 1#32 rfl) (sem_off3 3 c)) ?_
  refine step (second _ 1 1 2 rfl rfl (at_peer c 1 2 rfl (k0_dev16_eq c)) _ _ (slot_word gM c 1 2#32 rfl) (slot_off4 rM c) _ _ (sem_word 2 c 1 2#32 rfl) (sem_off3 3 c)) ?_
  simp only [k0_part12_eq_skeleton, k0_part12_skel, semSignalWord, semWaitWord, Prog.lift, Prog.bind_op, Prog.bind_ret, Prog.pure_eq_ret]
  refine step (second _ 2 2 3 rfl rfl (at_peer c 2 3 rfl (k0_dev17_eq c)) _ _ (slot_word gM c 2 3#32 rfl) (slot_off4 rM c) _ _ (sem_word 2 c 2 3#32 rfl) (sem_off3 3 c)) ?_
  refine step (second _ 3 3 4 rfl rfl (at_peer c 3 4 rfl (k0_dev18_eq c)) _ _ (slot_word gM c 3 4#32 rfl) (slot_off4 rM c) _ _ (sem_word 2 c 3 4#32 rfl) (sem_off3 3 c)) ?_
  refine step (second _ 4 4 5 rfl rfl (at_peer c 4 5 rfl (k0_dev19_eq c)) _ _ (slot_word gM c 4 5#32 rfl) (slot_off4 rM c) _ _ (sem_word 2 c 4 5#32 rfl) (sem_off3 3 c)) ?_
  simp only [k0_part13_eq_skeleton, k0_part13_skel, semSignalWord, semWaitWord, Prog.lift, Prog.bind_op, Prog.bind_ret, Prog.pure_eq_ret]
  refine step (second _ 5 5 6 rfl rfl (at_peer c 5 6 rfl (k0_dev20_eq c)) _ _ (slot_word gM c 5 6#32 rfl) (slot_off4 rM c) _ _ (sem_word 2 c 5 6#32 rfl) (sem_off3 3 c)) ?_
  refine step (second _ 6 6 7 rfl rfl (at_peer c 6 7 rfl (k0_dev21_eq c)) _ _ (slot_word gM c 6 7#32 rfl) (slot_off4 rM c) _ _ (sem_word 2 c 6 7#32 rfl) (sem_off3 3 c)) ?_
  refine (to_arrivals_second m ρ K c).trans ?_
  refine step (wait_step m ρ K 3 0 c (fun i => mayWait_zero c (.dma (dq 3 i))) 0 0 1 rfl rfl _ (sem_word 3 c 0 1#32 rfl) _ _ (credit_at _ _)) ?_
  simp only [k0_part14_eq_skeleton, k0_part14_skel, semSignalWord, semWaitWord, Prog.lift, Prog.bind_op, Prog.bind_ret, Prog.pure_eq_ret]
  refine step (wait_step m ρ K 3 0 c (fun i => mayWait_zero c (.dma (dq 3 i))) 1 1 2 rfl rfl _ (sem_word 3 c 1 2#32 rfl) _ _ (credit_at _ _)) ?_
  refine step (wait_step m ρ K 3 0 c (fun i => mayWait_zero c (.dma (dq 3 i))) 2 2 3 rfl rfl _ (sem_word 3 c 2 3#32 rfl) _ _ (credit_at _ _)) ?_
  refine step (wait_step m ρ K 3 0 c (fun i => mayWait_zero c (.dma (dq 3 i))) 3 3 4 rfl rfl _ (sem_word 3 c 3 4#32 rfl) _ _ (credit_at _ _)) ?_
  simp only [k0_part15_eq_skeleton, k0_part15_skel, semSignalWord, semWaitWord, Prog.lift, Prog.bind_op, Prog.bind_ret, Prog.pure_eq_ret]
  refine step (wait_step m ρ K 3 0 c (fun i => mayWait_zero c (.dma (dq 3 i))) 4 4 5 rfl rfl _ (sem_word 3 c 4 5#32 rfl) _ _ (credit_at _ _)) ?_
  refine step (wait_step m ρ K 3 0 c (fun i => mayWait_zero c (.dma (dq 3 i))) 5 5 6 rfl rfl _ (sem_word 3 c 5 6#32 rfl) _ _ (credit_at _ _)) ?_
  refine step (wait_step m ρ K 3 0 c (fun i => mayWait_zero c (.dma (dq 3 i))) 6 6 7 rfl rfl _ (sem_word 3 c 6 7#32 rfl) _ _ (credit_at _ _)) ?_
  refine (to_unfold m ρ K c).trans ?_
  simp only [k0_part16_eq_skeleton, k0_part16_skel, semSignalWord, semWaitWord, Prog.lift, Prog.bind_op, Prog.bind_ret, Prog.pure_eq_ret]
  refine step (unf_step m ρ c 0 0 1 rfl rfl _ rfl _ rfl _ rfl) ?_
  refine step (unf_step m ρ c 1 1 2 rfl rfl _ rfl _ rfl _ rfl) ?_
  refine step (unf_step m ρ c 2 2 3 rfl rfl _ rfl _ rfl _ rfl) ?_
  refine step (unf_step m ρ c 3 3 4 rfl rfl _ rfl _ rfl _ rfl) ?_
  refine step (unf_step m ρ c 4 4 5 rfl rfl _ rfl _ rfl _ rfl) ?_
  simp only [k0_part17_eq_skeleton, k0_part17_skel, semSignalWord, semWaitWord, Prog.lift, Prog.bind_op, Prog.bind_ret, Prog.pure_eq_ret]
  refine step (unf_step m ρ c 5 5 6 rfl rfl _ rfl _ rfl _ rfl) ?_
  refine step (unf_step m ρ c 6 6 7 rfl rfl _ rfl _ rfl _ rfl) ?_
  refine step (unf_step m ρ c 7 7 8 rfl rfl _ rfl _ rfl _ rfl) ?_
  refine (to_departures_second m ρ K c).trans ?_
  refine step (wait_step m ρ K 2 0 c (fun i => mayWait_zero c (.dma (dq 2 i))) 0 0 1 rfl rfl _ (sem_word 2 c 0 1#32 rfl) _ _ (credit_at _ _)) ?_
  refine step (wait_step m ρ K 2 0 c (fun i => mayWait_zero c (.dma (dq 2 i))) 1 1 2 rfl rfl _ (sem_word 2 c 1 2#32 rfl) _ _ (credit_at _ _)) ?_
  refine step (wait_step m ρ K 2 0 c (fun i => mayWait_zero c (.dma (dq 2 i))) 2 2 3 rfl rfl _ (sem_word 2 c 2 3#32 rfl) _ _ (credit_at _ _)) ?_
  refine step (wait_step m ρ K 2 0 c (fun i => mayWait_zero c (.dma (dq 2 i))) 3 3 4 rfl rfl _ (sem_word 2 c 3 4#32 rfl) _ _ (credit_at _ _)) ?_
  refine step (wait_step m ρ K 2 0 c (fun i => mayWait_zero c (.dma (dq 2 i))) 4 4 5 rfl rfl _ (sem_word 2 c 4 5#32 rfl) _ _ (credit_at _ _)) ?_
  refine step (wait_step m ρ K 2 0 c (fun i => mayWait_zero c (.dma (dq 2 i))) 5 5 6 rfl rfl _ (sem_word 2 c 5 6#32 rfl) _ _ (credit_at _ _)) ?_
  refine step (wait_step m ρ K 2 0 c (fun i => mayWait_zero c (.dma (dq 2 i))) 6 6 7 rfl rfl _ (sem_word 2 c 6 7#32 rfl) _ _ (credit_at _ _)) ?_
  refine (to_end m ρ K c).trans ?_
  show _ ⊢ wp frame (wpE (defs₀ (F := F)) 𝒱₀ (c : Thread nD τ) none) Set.univ (.ret PUnit.unit) (fun _ => bodyOut m ρ c)
  rw [wp_ret]

end Cert.KernelIdeal.Pf
-- ==== Proof.KernelIdeal.Run.lean ====
/-
The run: what the kernel's one point starts from and leaves, and what the device's arrays hold when all is over.
-/
module

public import proofs.«01_k».proof.Proof.KernelIdeal.Launch
public import proofs.«01_k».proof.Proof.KernelIdeal.Body
public import proofs.«01_k».proof.Proof.Gen.KernelIdeal.Points
public import Idealize.ShloMosaic.Lib.Quiescent
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the point starts from and leaves -/

/-- What a device begins with, its scratch buffers apart. -/
def start (c : Dev nD) : sProp 𝕄 := iprop(G' m ρ c ∗ launchCreds c ∗ levAts L lv)

def before₀ (c : Dev nD) : sProp 𝕄 := iprop(start m ρ c ∗ scratch c)
def after₀ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => before₀ m ρ c
    | ⟨_ + 1, _⟩ => after₀ c
  q _ := fullShare
  owed t := match t with
    | ⟨0, _⟩ => owed c 21
    | ⟨_ + 1, _⟩ => 0

/-! ## The point -/

omit [FloatOps F] in
theorem held_whole (b : Ref sig .tc) {s : Shape} (M : Memref sig .tc .vmem s .bf16) (c : Dev nD) (hM : M.view.set = Finset.univ) (f : Buf (Elt F) (M.view.loc (c : Thread nD τ))) :
    (held M c f : sProp 𝕄) = M.view.loc (c : Thread nD τ) ↦{fullShare} f := by unfold held; rw [hM]

omit [FloatOps F] in
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer at contents `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

set_option maxRecDepth 4000 in
def pointIn (c : Dev nD) : sProp 𝕄 :=
  iprop(before₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

set_option maxRecDepth 4000 in
def pointOut (c : Dev nD) : sProp 𝕄 :=
  iprop(after₀ c ∗ (dats m ρ 0 c).owesAt () t0_0.succ
    ∗ staged c cc0_stg0_0 (xstg m ρ c) ∗ staged c cc0_stg1_0 (outC m ρ c))

set_option maxRecDepth 4000 in
theorem point_in (c : Dev nD) : pointIn m ρ c ⊢ iprop(∃ K, bodyIn m ρ K c) := by
  unfold pointIn before₀ start G' bodyIn records known Dat.owesAt Pipeline.owesWithin
  iintro ⟨⟨⟨⟨%K, ⟨HI, HR⟩, Hl⟩, Hc, Hv⟩, Hs⟩, Ho, ⟨%d, %f, %hf, Hx⟩, ⟨%d', %f', -, Hy⟩⟩
  icases Ho with ⟨%W, -, Ho⟩
  iexists K
  isplitl [HI HR Hv]
  · isplitl [HI]; · iexact HI
    isplitl [HR]; · iexact HR
    iexact Hv
  isplitl [Hl]; · iexact Hl
  isplitl [Hc]; · iexact Hc
  isplitl [Hs]; · iexact Hs
  isplitl [Ho]
  · unfold OW
    iexists W
    iexact Ho
  isplitl [Hx]
  · have hx : f = xstg m ρ c := hf.trans (by unfold Dat.before; rw [if_pos (fetch0_0 t0_0)]; rfl)
    subst hx
    unfold held
    rw [show (xM : Memref sig .tc .vmem S2048x512 .bf16).view.set = Finset.univ from View.set_whole _]
    iexact Hx
  · iexists f'
    unfold held
    rw [show (oM : Memref sig .tc .vmem S2048x512 .bf16).view.set = Finset.univ from View.set_whole _]
    iexact Hy

set_option maxRecDepth 4000 in
theorem point_out (c : Dev nD) : bodyOut m ρ c ⊢ pointOut m ρ c := by
  unfold pointOut after₀ bodyOut Dat.owesAt Pipeline.owesWithin OW held
  rw [show (dats m ρ 0 c).owed t0_0.succ = owed c 0 from rfl,
    show (xM : Memref sig .tc .vmem S2048x512 .bf16).view.set = Finset.univ from View.set_whole _,
    show (oM : Memref sig .tc .vmem S2048x512 .bf16).view.set = Finset.univ from View.set_whole _]
  iintro ⟨Hs, Hz, ⟨%W, Ho⟩, Hx, Hy⟩
  isplitl [Hs Hz]
  · isplitl [Hs]; · iexact Hs
    iexact Hz
  isplitl [Ho]
  · iexists W
    isplitr; · ipureintro; exact fun _ _ => Or.inl trivial
    iexact Ho
  isplitl [Hx]
  · iexists _; isplitr; · (ipureintro; rfl)
    iexact Hx
  · iexists _; isplitr; · (ipureintro; rfl)
    iexact Hy

set_option maxRecDepth 4000 in
/-- The kernel's body at its one point. -/
theorem body_obligation (c : Dev nD) : BodyObligation (dats (F := F) m ρ 0 c) (defs₀ (F := F)) 𝒱₀ () Set.univ := fun t => by
  rw [fin_N0 t, bigSep_W0, bigSep_W0]
  simp only [owns_all]
  show pointIn m ρ c ⊢ WP c (cc0_body xM (Memref.isWhole_whole _) oM (Memref.isWhole_whole _) sM (Memref.isWhole_whole _) gM (Memref.isWhole_whole _)
      rM (Memref.isWhole_whole _) cc0_scratch3 cc0_scratch4 cc0_scratch5 cc0_scratch6) (fun _ => pointOut m ρ c)
  refine (point_in m ρ c).trans ?_
  iintro ⟨%K, H⟩
  iapply (((sound_body m ρ K c).trans (wp_mono frame _ _ fun _ => point_out m ρ c))) $$ H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 21) c ∗ prngReg c (ρ c) ∗ G' m ρ c)
      ⊢ |={Set.univ}=> iprop(start m ρ c ∗ emp) := by
  iintro ⟨-, Hv, Hc, -, HG⟩
  ihave Hc := (credits (F := F) c) $$ Hc
  imodintro
  unfold start
  isplitl
  · isplitl [HG]; · iexact HG
    isplitl [Hc]; · iexact Hc
    iexact Hv
  · iempintro

omit [FloatOps F] in
theorem scratch_eq (c : Dev nD) : (Pipeline.scopedRest cfg0.spec c : sProp 𝕄) = scratch c := by
  rw [scopedRest0_eq]
  unfold scratch held
  rw [show (sM : Memref sig .tc .vmem S8x1024x128 .bf16).view.set = Finset.univ from View.set_whole _,
    show (gM : Memref sig .tc .vmem S8x1024x128 .bf16).view.set = Finset.univ from View.set_whole _,
    show (rM : Memref sig .tc .vmem S8x1024x128 .bf16).view.set = Finset.univ from View.set_whole _]

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scratch_eq]
  unfold before₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scratch_eq, own_zero, bar_zero]
  unfold after₀ zeros
  iintro ⟨Hr, Hb, Hz⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 21 (by revert w s; decide +revert) fun j _ => (lv_tgt c j).1
    · exact mayWait_zero c _

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the eight devices, from any memory with the counters at zero, ends; each device's arrays then
    hold their final contents and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := fun d => owed d 21) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.KernelIdeal.Pf
-- ==== Proof.KernelIdeal.Arrays.lean ====
/-
The kernel's two arrays: what a device stages is its whole argument, and what it writes back is its whole result.
-/
module

public import proofs.«01_k».proof.Proof.KernelIdeal.Run

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- A device stages its argument whole. -/
theorem xstg_eq (c : Dev nD) : xstg m ρ c = m ((c.tc : Thread nD τ).loc main_arg0) := by
  funext x
  refine congrArg (m ((c.tc : Thread nD τ).loc main_arg0)) (?_ : (win0_0.rect t0_0).emb x = x)
  funext a
  exact Fin.ext (win0_0.rect_emb_val_of_index_zero t0_0 a rfl x)

/-- What is written back is a block of the result. -/
theorem flushed_out (c : Dev nD) (t : Fin cfg0.N) :
    (dats m ρ 0 c).flushed (1 : Fin 2) t = ((cfg0.win (1 : Fin 2)).blk t).view.read (Elt F) (outC m ρ c) := by
  obtain rfl := fin_N0 t
  funext x
  have h : (win0_1.rect t0_0).emb x = x := funext fun a => Fin.ext (win0_1.rect_emb_val_of_index_zero t0_0 a rfl x)
  exact congrArg (outC m ρ c) h.symm

/-- That block is the whole. -/
theorem covered (i : S2048x512.Idx) :
    ∃ t : Fin cfg0.N, (cfg0.win (1 : Fin 2)).flush t = true ∧ i ∈ ((cfg0.win (1 : Fin 2)).blk t).view.set := by
  refine ⟨t0_0, flush0_1 _, ?_⟩
  have h : (win0_1.rect t0_0).emb i = i := funext fun a => Fin.ext (win0_1.rect_emb_val_of_index_zero t0_0 a rfl i)
  exact Finset.mem_map.mpr ⟨i, Finset.mem_univ _, h⟩

/-- A device's result array ends as its result. -/
theorem finalA_out (c : Dev nD) : finalA m ρ c (1 : Fin 2) = outC m ρ c :=
  (dats m ρ 0 c).arrAt_eq_of_cover (1 : Fin 2) (outC m ρ c) (fun t _ => flushed_out m ρ c t) covered

end Cert.KernelIdeal.Pf

end
-- ==== Proof.KernelIdeal.RefSort.lean ====
/-
What the reference computes, over the extended reals: its sort puts each column in increasing order. The comparator the
sort calls treats the two zeros alike and sends what is no number to the end; among extended reals it is plainly `<`.
-/
module

public import proofs.«01_k».proof.Proof.Gen.ReferenceIdeal
public import Idealize.ShloMosaic.Lib.SortFacts
public import Idealize.ShloMosaic.Lib.IdealHost
public import Idealize.ShloMosaic.Lib.SortNet.Printed
public import Idealize.ShloMosaic.Lib.Pointwise.Index

@[expose] public section

noncomputable section

namespace Cert.ReferenceIdeal.Pf

open Cert.ReferenceIdeal Cert.ReferenceIdeal.Gen
open Idealize.ShloMosaic

/-- The comparator is the order of the extended reals. -/
theorem comparator_eq (l r : EReal) : comparator_f32_d0 (F := Ideal) l r = BitVec.ofBool (decide (l < r)) := by
  have side (x : EReal) : Scalar.select (BitVec.ofBool (decide (x ≠ x))) (FloatOps.ofBits (F := Ideal) .f32 0x7FC00000#32)
      (Scalar.select (BitVec.ofBool (decide (x = FloatOps.ofBits (F := Ideal) .f32 0x00000000#32)))
        (FloatOps.ofBits (F := Ideal) .f32 0x00000000#32) x) = x := by
    rw [SortNet.select_ofBool, SortNet.select_ofBool, decide_eq_false (fun h => h rfl)]
    by_cases h : x = FloatOps.ofBits (F := Ideal) .f32 0x00000000#32
    · rw [decide_eq_true h]; exact h.symm
    · rw [decide_eq_false h]; rfl
  show BitVec.ofBool (decide (Scalar.select (BitVec.ofBool (decide (l ≠ l))) _ (Scalar.select (BitVec.ofBool (decide (l = _))) _ l)
    < Scalar.select (BitVec.ofBool (decide (r ≠ r))) _ (Scalar.select (BitVec.ofBool (decide (r = _))) _ r))) = _
  rw [side l, side r]

/-- A list read in the order its stable sort visits it increases. -/
theorem sortedFrom_monotone {n : ℕ} (f : Fin n → EReal) : Monotone (f ∘ sortedFrom fun k k' => decide (f k < f k')) := by
  intro i j hij
  rcases hij.lt_or_eq with h | h
  · have := sortedFrom_noInversion (fun k k' => decide (f k < f k')) (fun k k' => decide (f k < f k'))
      (fun a b hab => decide_eq_false (not_lt.mpr (le_of_lt (of_decide_eq_true hab)))) (fun _ _ h => h)
      (fun a b c hab hbc => decide_eq_false (not_lt.mpr
        ((not_lt.mp (of_decide_eq_false hbc)).trans (not_lt.mp (of_decide_eq_false hab))))) i j h
    exact not_lt.mp (of_decide_eq_false this)
  · rw [h]

/-- Two increasing rearrangements of one list are the same list. -/
theorem monotone_unique {n : ℕ} {f g u : Fin n → EReal} (hf : Monotone f) (hg : Monotone g)
    (hfu : ∃ σ : Equiv.Perm (Fin n), f = u ∘ σ) (hgu : ∃ τ : Equiv.Perm (Fin n), g = u ∘ τ) : f = g := by
  obtain ⟨σ, hσ⟩ := hfu
  obtain ⟨τ, hτ⟩ := hgu
  have hp : (List.ofFn f).Perm (List.ofFn g) := by
    rw [hσ, hτ]
    exact (Equiv.Perm.ofFn_comp_perm σ u).trans (Equiv.Perm.ofFn_comp_perm τ u).symm
  exact List.ofFn_injective (hp.eq_of_pairwise (le := (· ≤ ·)) (fun _ _ _ _ hab hba => le_antisymm hab hba)
    (List.pairwise_ofFn.mpr fun _ _ h => hf h.le) (List.pairwise_ofFn.mpr fun _ _ h => hg h.le))

/-- The stable sort visits every position once. -/
def sortedPerm {n : ℕ} (R : Fin n → Fin n → Bool) : Equiv.Perm (Fin n) :=
  Equiv.ofBijective (sortedFrom R) ⟨sortedFrom_injective R, sortedFrom_surjective R⟩

theorem coe_sortedPerm {n : ℕ} (R : Fin n → Fin n → Bool) : ⇑(sortedPerm R) = sortedFrom R := rfl

/-- Column `n` of the reference's array. -/
def hostColumn (x : S16384x512.Idx → EReal) (n : Fin 512) : Fin 16384 → EReal :=
  fun i => x (ix2 (n0 := 16384) (n1 := 512) i n)

/-- The reference's sort rearranges each column into increasing order. -/
theorem hostSort_column (x : FVec Ideal S16384x512 .f32) (n : Fin 512) :
    Monotone (hostColumn (Host.sort S16384x512 0 (comparator_f32_d0 (F := Ideal)) x) n) ∧
      ∃ σ : Equiv.Perm (Fin 16384), hostColumn (Host.sort S16384x512 0 (comparator_f32_d0 (F := Ideal)) x) n = hostColumn x n ∘ σ := by
  have along (i k : Fin 16384) : (ix2 (n0 := 16384) (n1 := 512) i n).along (0 : Fin 2) k = ix2 (n0 := 16384) (n1 := 512) k n := by
    funext a
    match a with
    | ⟨0, _⟩ => rfl
    | ⟨1, _⟩ => rfl
  have key : hostColumn (Host.sort S16384x512 0 (comparator_f32_d0 (F := Ideal)) x) n
      = hostColumn x n ∘ sortedFrom fun k k' => decide (hostColumn x n k < hostColumn x n k') := by
    funext i
    have hb : (fun k k' : Fin 16384 => comparator_f32_d0 (F := Ideal) (x ((ix2 (n0 := 16384) (n1 := 512) i n).along (0 : Fin 2) k))
        (x ((ix2 (n0 := 16384) (n1 := 512) i n).along (0 : Fin 2) k')) == 1#1)
        = fun k k' => decide (hostColumn x n k < hostColumn x n k') := by
      funext k k'
      rw [along, along, comparator_eq]
      show (BitVec.ofBool (decide (hostColumn x n k < hostColumn x n k')) == 1#1) = _
      cases decide (hostColumn x n k < hostColumn x n k') <;> rfl
    have e : hostColumn (Host.sort S16384x512 0 (comparator_f32_d0 (F := Ideal)) x) n i
        = x ((ix2 (n0 := 16384) (n1 := 512) i n).along (0 : Fin 2) (sortedFrom (fun k k' : Fin 16384 =>
            comparator_f32_d0 (F := Ideal) (x ((ix2 (n0 := 16384) (n1 := 512) i n).along (0 : Fin 2) k))
              (x ((ix2 (n0 := 16384) (n1 := 512) i n).along (0 : Fin 2) k')) == 1#1) i)) := rfl
    exact e.trans ((congrArg x (along i _)).trans
      (congrArg (fun R : Fin 16384 → Fin 16384 → Bool => x (ix2 (n0 := 16384) (n1 := 512) (sortedFrom R i) n)) hb))
  rw [key]
  exact ⟨sortedFrom_monotone _, sortedPerm _, by rw [coe_sortedPerm]⟩

/-- The reference's result: the array with each column sorted. -/
def sorted (x : FVec Ideal S16384x512 .bf16) : FVec Ideal S16384x512 .bf16 :=
  truncf .bf16 (Host.sort S16384x512 0 comparator_f32_d0 (extf .f32 x bitsLt_bf16_f32)) bitsLt_bf16_f32

/-- A column of the result increases and rearranges the argument's column, the casts being the identity. -/
theorem sorted_column (x : FVec Ideal S16384x512 .bf16) (n : Fin 512) :
    Monotone (hostColumn (sorted x) n) ∧ ∃ σ : Equiv.Perm (Fin 16384), hostColumn (sorted x) n = hostColumn x n ∘ σ :=
  hostSort_column x n

end Cert.ReferenceIdeal.Pf

end
-- ==== Proof.KernelIdeal.Value.lean ====
/-
The equation: each device's result is its block of rows of the array the reference sorts. A column the kernel sorts and
the same column of the reference's array are two increasing rearrangements of one list, hence one list.
-/
module

public import proofs.«01_k».proof.Proof.KernelIdeal.Stages
public import proofs.«01_k».proof.Proof.KernelIdeal.Folding
public import proofs.«01_k».proof.Proof.KernelIdeal.Arrays
public import proofs.«01_k».proof.Proof.KernelIdeal.RefSort

@[expose] public section

noncomputable section

namespace Cert.KernelIdeal.Pf

open Cert.KernelIdeal Cert.KernelIdeal.Gen
open Cert.ReferenceIdeal (S16384x512)
open Cert.ReferenceIdeal.Pf (hostColumn monotone_unique)
open Idealize.ShloMosaic Idealize.ShloMosaic.TcCoe Idealize.SL.Sem

variable (m : (ℓ : Loc nD τ sig) → Buf (Elt Ideal) ℓ) (ρ : Dev nD → PrngReg)

/-- The columns a device gathers are the columns of the whole array. -/
theorem gathered_column (X : FVec Ideal S16384x512 .bf16)
    (hX : ∀ c : Dev nD, m ((c.tc : Thread nD τ).loc main_arg0) = Layout.block ⟨2, ![2048, 512]⟩ ⟨2, ![16384, 512]⟩ 0 8 c X)
    (c : Dev nD) (q : Fin 64) :
    column (k0_pay11 (gathC m ρ c)) q = hostColumn X ⟨64 * c.val + q.val, by have : c.val < 8 := c.isLt; omega⟩ := by
  funext i
  refine (gathered_apply m ρ c q i).trans ?_
  rw [xstg_eq, hX]
  refine congrArg X (funext (Fin.forall_fin_two.mpr ⟨Fin.ext ?_, Fin.ext ?_⟩))
  · show i.val / 2048 * 2048 + i.val % 2048 = i.val
    omega
  · rfl

/-- Sorted by the kernel or by the reference, a column is the same. -/
theorem same_column (X : FVec Ideal S16384x512 .bf16)
    (hX : ∀ c : Dev nD, m ((c.tc : Thread nD τ).loc main_arg0) = Layout.block ⟨2, ![2048, 512]⟩ ⟨2, ![16384, 512]⟩ 0 8 c X)
    (c : Dev nD) (q : Fin 64) :
    column (sortVec (k0_pay11 (gathC m ρ c))) q
      = hostColumn (Cert.ReferenceIdeal.Pf.sorted X) ⟨64 * c.val + q.val, by have : c.val < 8 := c.isLt; omega⟩ := by
  have hk := sortVec_column (k0_pay11 (gathC m ρ c)) q
  rw [gathered_column m ρ X hX c q] at hk
  have hr := Cert.ReferenceIdeal.Pf.sorted_column X ⟨64 * c.val + q.val, by have : c.val < 8 := c.isLt; omega⟩
  exact monotone_unique hk.1 hr.1 hk.2 hr.2

/-- Each device ends with its block of rows of the sorted array. -/
theorem outC_eq (X : FVec Ideal S16384x512 .bf16)
    (hX : ∀ c : Dev nD, m ((c.tc : Thread nD τ).loc main_arg0) = Layout.block ⟨2, ![2048, 512]⟩ ⟨2, ![16384, 512]⟩ 0 8 c X)
    (c : Dev nD) :
    outC m ρ c = Layout.block ⟨2, ![2048, 512]⟩ ⟨2, ![16384, 512]⟩ 0 8 c (Cert.ReferenceIdeal.Pf.sorted X) := by
  funext x
  obtain ⟨r, n, rfl⟩ : ∃ (r : Fin 2048) (n : Fin 512), x = ix2 r n := ⟨x 0, x 1, eq_ix2 (n0 := 2048) (n1 := 512) x⟩
  refine (result_apply m ρ c r n).trans ((congrFun (same_column m ρ X hX (⟨n.val / 64, by omega⟩ : Fin 8) ⟨n.val % 64, by omega⟩)
    ⟨2048 * c.val + r.val, by have : c.val < 8 := c.isLt; omega⟩).trans ?_)
  refine congrArg (Cert.ReferenceIdeal.Pf.sorted X) (funext (Fin.forall_fin_two.mpr ⟨Fin.ext ?_, Fin.ext ?_⟩))
  · show 2048 * c.val + r.val = c.val * 2048 + r.val
    omega
  · show 64 * (n.val / 64) + n.val % 64 = n.val
    omega

end Cert.KernelIdeal.Pf

end
-- ==== Proof.lean ====
/-
The claims, assembled: each of the three programs runs and leaves its argument and its counters as they were; the
idealization is the kernel's own text; and each device's result is its block of the reference's.
-/
module

public import proofs.«01_k».proof.Defs
public import proofs.«01_k».proof.Proof.Gen.ReferenceIdeal.Run
public import proofs.«01_k».proof.Proof.Kernel.Run
public import proofs.«01_k».proof.Proof.KernelIdeal.Value

@[expose] public section

noncomputable section

namespace Cert.Proof

open Idealize.ShloMosaic Idealize.ShloMosaic.TcCoe Idealize.SL.Sem

/-- The kernel runs, and leaves its argument and its counters as they were. -/
theorem frame_kernel : Cert.quiescent_Kernel (hKernel := Cert.Kernel.Gen.facts) := fun m g _ =>
  (θ_run Cert.Kernel.defs _ _).mono (fun _ h => ⟨fun c => (h.1 c (0 : Fin 2)).trans (Cert.Kernel.Pf.finalA_in m g c), h.2⟩)
    (Cert.Kernel.Pf.run_main (F := Bits) m g)

/-- So does its idealization. -/
theorem frame_ideal : Cert.quiescent_KernelIdeal (hKernelIdeal := Cert.KernelIdeal.Gen.facts) := fun m g _ =>
  (θ_run Cert.KernelIdeal.defs _ _).mono (fun _ h => ⟨fun c => (h.1 c (0 : Fin 2)).trans (Cert.KernelIdeal.Pf.finalA_in m g c), h.2⟩)
    (Cert.KernelIdeal.Pf.run_main (F := Ideal) m g)

/-- So does the reference, which has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, on inputs that are the blocks of one array, the devices end with the blocks of that array
    with each column sorted, which is what the reference computes. -/
theorem equal_result : Cert.algebraic_KernelIdeal_ReferenceIdeal (hKernelIdeal := Cert.KernelIdeal.Gen.facts)
    (hReferenceIdeal := Cert.ReferenceIdeal.Gen.facts) := by
  intro m g m' g' _ hX
  refine ⟨Cert.ReferenceIdeal.Pf.sorted (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, ?_⟩) (Cert.KernelIdeal.Pf.run_main (F := Ideal) m g)
    · exact (h.1 c (1 : Fin 2)).trans ((Cert.KernelIdeal.Pf.finalA_out m g c).trans (Cert.KernelIdeal.Pf.outC_eq m g _ hX c))
    · exact (h.1 c (0 : Fin 2)).trans (Cert.KernelIdeal.Pf.finalA_in m g c)
  · refine (θ_run Cert.ReferenceIdeal.defs _ _).mono (fun r h => ⟨?_, (h 0).2⟩) (Cert.ReferenceIdeal.Value.run (F := Ideal) m' g')
    exact (h 0).1

theorem claim : Cert.Claim := ⟨Cert.Kernel.Gen.facts, Cert.KernelIdeal.Gen.facts, Cert.ReferenceIdeal.Gen.facts,
  frame_kernel, frame_ideal, frame_reference, trivial, equal_result⟩

end Cert.Proof

end
